-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_two_modalities [hPre_finite_scores_two_modalities : Cert.Pre_finite_scores_two_modalities.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_two_modalities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_scores_two_modalities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_scores_two_modalities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_scores_two_modalities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_scores_two_modalities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_scores_two_modalities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_scores_two_modalities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_two_modalities [hPre_finite_scores_two_modalities : Cert.Pre_finite_scores_two_modalities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_two_modalities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_scores_two_modalities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_scores_two_modalities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_scores_two_modalities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_scores_two_modalities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_scores_two_modalities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_scores_two_modalities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores_two_modalities [hKernelIdeal : Cert.KernelIdeal.Facts] [hPre_finite_scores_two_modalities : Cert.Pre_finite_scores_two_modalities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_two_modalities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores_two_modalities [hReferenceIdeal : Cert.ReferenceIdeal.Facts] [hPre_finite_scores_two_modalities : Cert.Pre_finite_scores_two_modalities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_two_modalities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite_scores_two_modalities [hKernelIdeal : Cert.KernelIdeal.Facts] [hReferenceIdeal : Cert.ReferenceIdeal.Facts] [hPre_finite_scores_two_modalities : Cert.Pre_finite_scores_two_modalities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_two_modalities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_scores_two_modalities : Cert.Pre_finite_scores_two_modalities.Facts),
    quiescent_Kernel (hKernel := hKernel)
    ∧ quiescent_KernelIdeal (hKernelIdeal := hKernelIdeal)
    ∧ quiescent_KernelIdeal_pre_finite_scores_two_modalities (hKernelIdeal := hKernelIdeal) (hPre_finite_scores_two_modalities := hPre_finite_scores_two_modalities)
    ∧ quiescent_ReferenceIdeal (hReferenceIdeal := hReferenceIdeal)
    ∧ quiescent_ReferenceIdeal_pre_finite_scores_two_modalities (hReferenceIdeal := hReferenceIdeal) (hPre_finite_scores_two_modalities := hPre_finite_scores_two_modalities)
    ∧ preserves_Kernel_KernelIdeal
    ∧ algebraic_KernelIdeal_ReferenceIdeal_pre_finite_scores_two_modalities (hKernelIdeal := hKernelIdeal) (hReferenceIdeal := hReferenceIdeal) (hPre_finite_scores_two_modalities := hPre_finite_scores_two_modalities)
-- ==== Pre_finite_scores_two_modalities.lean ====
abbrev S1x2048x768 : Shape := ⟨3, ![1, 2048, 768]⟩
abbrev S2048x32x2x2 : Shape := ⟨4, ![2048, 32, 2, 2]⟩
abbrev S1x2048 : Shape := ⟨2, ![1, 2048]⟩
abbrev S768x768 : Shape := ⟨2, ![768, 768]⟩
abbrev S256x768 : Shape := ⟨2, ![256, 768]⟩
abbrev S_ : Shape := ⟨0, ![]⟩

class Facts : Prop where
  bcast_S_S1x2048x768 : S_.BroadcastsInDim S1x2048x768 (![] : Fin 0 → Fin S1x2048x768.rank)
  bcast_S_S2048x32x2x2 : S_.BroadcastsInDim S2048x32x2x2 (![] : Fin 0 → Fin S2048x32x2x2.rank)
  bcast_S_S1x2048 : S_.BroadcastsInDim S1x2048 (![] : Fin 0 → Fin S1x2048.rank)
  bcast_S_S768x768 : S_.BroadcastsInDim S768x768 (![] : Fin 0 → Fin S768x768.rank)
  bcast_S_S256x768 : S_.BroadcastsInDim S256x768 (![] : Fin 0 → Fin S256x768.rank)

variable [Facts]

def fn_part1 {F : FTy → Type} [FloatOps F] (main_arg6 : FVec F S256x768 .f32) (main_v2 : IVec S1x2048x768 1) (main_v5 : IVec S2048x32x2x2 1) (main_v10 : IVec S1x2048 1) (main_v13 : IVec S768x768 1) (main_v16 : IVec S768x768 1) (main_v17 : FVec F S256x768 .f32) : IVec S1x2048x768 1 × IVec S2048x32x2x2 1 × IVec S1x2048 1 × IVec S768x768 1 × IVec S768x768 1 × IVec S256x768 1 × IVec S256x768 1 :=
  let main_cst_4 : FVec F S_ .f32 := constant S_ .f32 0x7F800000#32
  let main_v18 : FVec F S256x768 .f32 := broadcastInDim S256x768 ![] bcast_S_S256x768 main_cst_4
  let main_v19 : IVec S256x768 1 := cmpf .olt main_v17 main_v18
  let main_v20 : FVec F S256x768 .f32 := Host.absf main_arg6
  let main_cst_5 : FVec F S_ .f32 := constant S_ .f32 0x7F800000#32
  let main_v21 : FVec F S256x768 .f32 := broadcastInDim S256x768 ![] bcast_S_S256x768 main_cst_5
  let main_v22 : IVec S256x768 1 := cmpf .olt main_v20 main_v21
  (main_v2, main_v5, main_v10, main_v13, main_v16, main_v19, main_v22)

def fn {F : FTy → Type} [FloatOps F] (main_arg0 : FVec F S1x2048x768 .f32) (main_arg1 : FVec F S2048x32x2x2 .f32) (main_arg2 : IVec S1x2048 32) (main_arg3 : FVec F S768x768 .f32) (main_arg4 : FVec F S768x768 .f32) (main_arg5 : FVec F S256x768 .f32) (main_arg6 : FVec F S256x768 .f32) (main_arg7 : FVec F S256x768 .f32) (main_arg8 : FVec F S256x768 .f32) (main_arg9 : FVec F S768x768 .f32) (main_arg10 : FVec F S768x768 .f32) : IVec S1x2048x768 1 × IVec S2048x32x2x2 1 × IVec S1x2048 1 × IVec S768x768 1 × IVec S768x768 1 × IVec S256x768 1 × IVec S256x768 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S2048x32x2x2 .f32 := Host.absf main_arg1
  let main_cst_0 : FVec F S_ .f32 := constant S_ .f32 0x7F800000#32
  let main_v4 : FVec F S2048x32x2x2 .f32 := broadcastInDim S2048x32x2x2 ![] bcast_S_S2048x32x2x2 main_cst_0
  let main_v5 : IVec S2048x32x2x2 1 := cmpf .olt main_v3 main_v4
  let main_c : IVec S_ 32 := constantI S_ 32 0#32
  let main_v6 : IVec S1x2048 32 := broadcastInDim S1x2048 ![] bcast_S_S1x2048 main_c
  let main_v7 : IVec S1x2048 1 := cmpi .eq main_arg2 main_v6
  let main_c_1 : IVec S_ 32 := constantI S_ 32 1#32
  let main_v8 : IVec S1x2048 32 := broadcastInDim S1x2048 ![] bcast_S_S1x2048 main_c_1
  let main_v9 : IVec S1x2048 1 := cmpi .eq main_arg2 main_v8
  let main_v10 : IVec S1x2048 1 := ori main_v7 main_v9
  let main_v11 : FVec F S768x768 .f32 := Host.absf main_arg3
  let main_cst_2 : FVec F S_ .f32 := constant S_ .f32 0x7F800000#32
  let main_v12 : FVec F S768x768 .f32 := broadcastInDim S768x768 ![] bcast_S_S768x768 main_cst_2
  let main_v13 : IVec S768x768 1 := cmpf .olt main_v11 main_v12
  let main_v14 : FVec F S768x768 .f32 := Host.absf main_arg4
  let main_cst_3 : FVec F S_ .f32 := constant S_ .f32 0x7F800000#32
  let main_v15 : FVec F S768x768 .f32 := broadcastInDim S768x768 ![] bcast_S_S768x768 main_cst_3
  let main_v16 : IVec S768x768 1 := cmpf .olt main_v14 main_v15
  let main_v17 : FVec F S256x768 .f32 := Host.absf main_arg5
  fn_part1 (F := F) main_arg6 main_v2 main_v5 main_v10 main_v13 main_v16 main_v17
-- ==== Kernel.lean ====
abbrev S1x2048x768 : Shape := ⟨3, ![1, 2048, 768]⟩
abbrev S2048x32x2x2 : Shape := ⟨4, ![2048, 32, 2, 2]⟩
abbrev S1x2048 : Shape := ⟨2, ![1, 2048]⟩
abbrev S768x768 : Shape := ⟨2, ![768, 768]⟩
abbrev S256x768 : Shape := ⟨2, ![256, 768]⟩
abbrev S64x64 : Shape := ⟨2, ![64, 64]⟩
abbrev S2048x768 : Shape := ⟨2, ![2048, 768]⟩
abbrev S2048 : Shape := ⟨1, ![2048]⟩
abbrev S_ : Shape := ⟨0, ![]⟩
abbrev S2048x1 : Shape := ⟨2, ![2048, 1]⟩
abbrev S2048x32x1x1 : Shape := ⟨4, ![2048, 32, 1, 1]⟩
abbrev S2048x32 : Shape := ⟨2, ![2048, 32]⟩
abbrev S2048x32x1 : Shape := ⟨3, ![2048, 32, 1]⟩
abbrev S2048x32x2 : Shape := ⟨3, ![2048, 32, 2]⟩
abbrev S2048x64 : Shape := ⟨2, ![2048, 64]⟩
abbrev S64x2048 : Shape := ⟨2, ![64, 2048]⟩
abbrev S1280x2048 : Shape := ⟨2, ![1280, 2048]⟩
abbrev S1024x768 : Shape := ⟨2, ![1024, 768]⟩
abbrev S1x1024 : Shape := ⟨2, ![1, 1024]⟩
abbrev S1280x1024 : Shape := ⟨2, ![1280, 1024]⟩
abbrev S768x1024 : Shape := ⟨2, ![768, 1024]⟩
abbrev S256x1024 : Shape := ⟨2, ![256, 1024]⟩
abbrev S768x2048 : Shape := ⟨2, ![768, 2048]⟩
abbrev S8x2048 : Shape := ⟨2, ![8, 2048]⟩
abbrev S72x2048 : Shape := ⟨2, ![72, 2048]⟩
abbrev S64x512 : Shape := ⟨2, ![64, 512]⟩
abbrev S512x2048 : Shape := ⟨2, ![512, 2048]⟩
abbrev S72x512 : Shape := ⟨2, ![72, 512]⟩
abbrev S1024x1 : Shape := ⟨2, ![1024, 1]⟩

abbrev nBuf : Space → Nat
  | .hbm => 43
  | .vmem => 33
  | .smem => 0
  | _ => 0

abbrev bufTy : (tb : Table) → Fin (tcTables nBuf tb) → BufTy
  | .hbm, ⟨0, _⟩ => ⟨S1x2048x768, .f32⟩
  | .hbm, ⟨1, _⟩ => ⟨S2048x32x2x2, .f32⟩
  | .hbm, ⟨2, _⟩ => ⟨S1x2048, .i32⟩
  | .hbm, ⟨3, _⟩ => ⟨S768x768, .f32⟩
  | .hbm, ⟨4, _⟩ => ⟨S768x768, .f32⟩
  | .hbm, ⟨5, _⟩ => ⟨S256x768, .f32⟩
  | .hbm, ⟨6, _⟩ => ⟨S256x768, .f32⟩
  | .hbm, ⟨7, _⟩ => ⟨S256x768, .f32⟩
  | .hbm, ⟨8, _⟩ => ⟨S256x768, .f32⟩
  | .hbm, ⟨9, _⟩ => ⟨S768x768, .f32⟩
  | .hbm, ⟨10, _⟩ => ⟨S768x768, .f32⟩
  | .hbm, ⟨11, _⟩ => ⟨S64x64, .bf16⟩
  | .hbm, ⟨12, _⟩ => ⟨S2048x768, .f32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .f32⟩
  | .hbm, ⟨18, _⟩ => ⟨S2048x1, .f32⟩
  | .hbm, ⟨19, _⟩ => ⟨S2048, .f32⟩
  | .hbm, ⟨20, _⟩ => ⟨S1x2048, .f32⟩
  | .hbm, ⟨21, _⟩ => ⟨S2048x32x1x1, .f32⟩
  | .hbm, ⟨22, _⟩ => ⟨S2048x32, .f32⟩
  | .hbm, ⟨23, _⟩ => ⟨S2048x32x1x1, .f32⟩
  | .hbm, ⟨24, _⟩ => ⟨S2048x32, .f32⟩
  | .hbm, ⟨25, _⟩ => ⟨S2048x32x1, .f32⟩
  | .hbm, ⟨26, _⟩ => ⟨S2048x32x1, .f32⟩
  | .hbm, ⟨27, _⟩ => ⟨S2048x32x2, .f32⟩
  | .hbm, ⟨28, _⟩ => ⟨S2048x64, .f32⟩
  | .hbm, ⟨29, _⟩ => ⟨S64x2048, .f32⟩
  | .hbm, ⟨30, _⟩ => ⟨S2048x32x1x1, .f32⟩
  | .hbm, ⟨31, _⟩ => ⟨S2048x32, .f32⟩
  | .hbm, ⟨32, _⟩ => ⟨S2048x32x1x1, .f32⟩
  | .hbm, ⟨33, _⟩ => ⟨S2048x32, .f32⟩
  | .hbm, ⟨34, _⟩ => ⟨S2048x32x1, .f32⟩
  | .hbm, ⟨35, _⟩ => ⟨S2048x32x1, .f32⟩
  | .hbm, ⟨36, _⟩ => ⟨S2048x32x2, .f32⟩
  | .hbm, ⟨37, _⟩ => ⟨S2048x64, .f32⟩
  | .hbm, ⟨38, _⟩ => ⟨S64x2048, .f32⟩
  | .hbm, ⟨39, _⟩ => ⟨S1280x2048, .bf16⟩
  | .hbm, ⟨40, _⟩ => ⟨S768x2048, .bf16⟩
  | .hbm, ⟨41, _⟩ => ⟨S2048x768, .f32⟩
  | .hbm, ⟨42, _⟩ => ⟨S1x2048x768, .f32⟩
  | .local _ .vmem, ⟨0, _⟩ => ⟨S1024x768, .f32⟩
  | .local _ .vmem, ⟨1, _⟩ => ⟨S1024x768, .f32⟩
  | .local _ .vmem, ⟨2, _⟩ => ⟨S1x1024, .f32⟩
  | .local _ .vmem, ⟨3, _⟩ => ⟨S1x1024, .f32⟩
  | .local _ .vmem, ⟨4, _⟩ => ⟨S768x768, .f32⟩
  | .local _ .vmem, ⟨5, _⟩ => ⟨S256x768, .f32⟩
  | .local _ .vmem, ⟨6, _⟩ => ⟨S256x768, .f32⟩
  | .local _ .vmem, ⟨7, _⟩ => ⟨S768x768, .f32⟩
  | .local _ .vmem, ⟨8, _⟩ => ⟨S256x768, .f32⟩
  | .local _ .vmem, ⟨9, _⟩ => ⟨S256x768, .f32⟩
  | .local _ .vmem, ⟨10, _⟩ => ⟨S1280x1024, .bf16⟩
  | .local _ .vmem, ⟨11, _⟩ => ⟨S1280x1024, .bf16⟩
  | .local _ .vmem, ⟨12, _⟩ => ⟨S64x2048, .bf16⟩
  | .local _ .vmem, ⟨13, _⟩ => ⟨S64x2048, .bf16⟩
  | .local _ .vmem, ⟨14, _⟩ => ⟨S64x2048, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x64, .bf16⟩
  | .local _ .vmem, ⟨23, _⟩ => ⟨S64x2048, .bf16⟩
  | .local _ .vmem, ⟨24, _⟩ => ⟨S64x2048, .bf16⟩
  | .local _ .vmem, ⟨25, _⟩ => ⟨S768x1024, .bf16⟩
  | .local _ .vmem, ⟨26, _⟩ => ⟨S768x1024, .bf16⟩
  | .local _ .vmem, ⟨27, _⟩ => ⟨S1024x1, .f32⟩
  | .local _ .vmem, ⟨28, _⟩ => ⟨S1024x1, .f32⟩
  | .local _ .vmem, ⟨29, _⟩ => ⟨S768x768, .f32⟩
  | .local _ .vmem, ⟨30, _⟩ => ⟨S768x768, .f32⟩
  | .local _ .vmem, ⟨31, _⟩ => ⟨S1024x768, .f32⟩
  | .local _ .vmem, ⟨32, _⟩ => ⟨S1024x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg4_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem4_1 : DmaSem sig := 32

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1280x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c0_i32_4 : BitVec 32 := 0#32
  let c0_i32_5 : BitVec 32 := 0#32
  ![v17.toNat, c0_i32_4.toNat]

def cc1_transform_2 (i : grid1.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  let c0_i32_5 : BitVec 32 := 0#32
  ![v17.toNat, c0_i32_4.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S768x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S1x2048x768 : Shape := ⟨3, ![1, 2048, 768]⟩
abbrev S2048x32x2x2 : Shape := ⟨4, ![2048, 32, 2, 2]⟩
abbrev S1x2048 : Shape := ⟨2, ![1, 2048]⟩
abbrev S768x768 : Shape := ⟨2, ![768, 768]⟩
abbrev S256x768 : Shape := ⟨2, ![256, 768]⟩
abbrev S_ : Shape := ⟨0, ![]⟩
abbrev S1x2048x256 : Shape := ⟨3, ![1, 2048, 256]⟩
abbrev S1x2048x1 : Shape := ⟨3, ![1, 2048, 1]⟩
abbrev S768x256 : Shape := ⟨2, ![768, 256]⟩
abbrev S1x2048x12x64 : Shape := ⟨4, ![1, 2048, 12, 64]⟩
abbrev S1x2048x4x64 : Shape := ⟨4, ![1, 2048, 4, 64]⟩
abbrev S1x2048x12x32x1x2 : Shape := ⟨6, ![1, 2048, 12, 32, 1, 2]⟩
abbrev S1x2048x1x32x2x2 : Shape := ⟨6, ![1, 2048, 1, 32, 2, 2]⟩
abbrev S1x2048x12x32x2x2 : Shape := ⟨6, ![1, 2048, 12, 32, 2, 2]⟩
abbrev S1x2048x12x32x2 : Shape := ⟨5, ![1, 2048, 12, 32, 2]⟩
abbrev S1x2048x4x32x1x2 : Shape := ⟨6, ![1, 2048, 4, 32, 1, 2]⟩
abbrev S1x2048x4x32x2x2 : Shape := ⟨6, ![1, 2048, 4, 32, 2, 2]⟩
abbrev S1x2048x4x32x2 : Shape := ⟨5, ![1, 2048, 4, 32, 2]⟩
abbrev S1x2048x4x3x64 : Shape := ⟨5, ![1, 2048, 4, 3, 64]⟩
abbrev S1x12x2048x64 : Shape := ⟨4, ![1, 12, 2048, 64]⟩
abbrev S1x12x64x2048 : Shape := ⟨4, ![1, 12, 64, 2048]⟩
abbrev S12x2048x64 : Shape := ⟨3, ![12, 2048, 64]⟩
abbrev S12x64x2048 : Shape := ⟨3, ![12, 64, 2048]⟩
abbrev S12x2048x2048 : Shape := ⟨3, ![12, 2048, 2048]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩

abbrev nBuf : Space → Nat
  | .hbm => 134
  | .vmem => 0
  | .smem => 0
  | _ => 0

abbrev hbmTy0_0 (i : Nat) : BufTy := match i % 128 with
  | 0 => ⟨S1x2048x768, .f32⟩
  | 1 => ⟨S2048x32x2x2, .f32⟩
  | 2 => ⟨S1x2048, .i32⟩
  | 3 => ⟨S768x768, .f32⟩
  | 4 => ⟨S768x768, .f32⟩
  | 5 => ⟨S256x768, .f32⟩
  | 6 => ⟨S256x768, .f32⟩
  | 7 => ⟨S256x768, .f32⟩
  | 8 => ⟨S256x768, .f32⟩
  | 9 => ⟨S768x768, .f32⟩
  | 10 => ⟨S768x768, .f32⟩
  | 11 => ⟨S_, .f32⟩
  | 12 => ⟨S1x2048x768, .f32⟩
  | 13 => ⟨S_, .f32⟩
  | 14 => ⟨S1x2048x256, .f32⟩
  | 15 => ⟨S_, .f32⟩
  | 16 => ⟨S1x2048x256, .f32⟩
  | 17 => ⟨S_, .i32⟩
  | 18 => ⟨S1x2048, .i32⟩
  | 19 => ⟨S1x2048, .i1⟩
  | 20 => ⟨S1x2048, .f32⟩
  | 21 => ⟨S1x2048x1, .f32⟩
  | 22 => ⟨S768x768, .f32⟩
  | 23 => ⟨S1x2048x768, .f32⟩
  | 24 => ⟨S1x2048x768, .f32⟩
  | 25 => ⟨S1x2048x768, .f32⟩
  | 26 => ⟨S1x2048x768, .f32⟩
  | 27 => ⟨S768x256, .f32⟩
  | 28 => ⟨S1x2048x256, .f32⟩
  | 29 => ⟨S1x2048x256, .f32⟩
  | 30 => ⟨S1x2048x256, .f32⟩
  | 31 => ⟨S1x2048x256, .f32⟩
  | 32 => ⟨S768x256, .f32⟩
  | 33 => ⟨S1x2048x256, .f32⟩
  | 34 => ⟨S1x2048x256, .f32⟩
  | 35 => ⟨S1x2048x256, .f32⟩
  | 36 => ⟨S1x2048x256, .f32⟩
  | 37 => ⟨S_, .i32⟩
  | 38 => ⟨S1x2048, .i32⟩
  | 39 => ⟨S1x2048, .i1⟩
  | 40 => ⟨S1x2048, .f32⟩
  | 41 => ⟨S1x2048x1, .f32⟩
  | 42 => ⟨S768x768, .f32⟩
  | 43 => ⟨S1x2048x768, .f32⟩
  | 44 => ⟨S1x2048x768, .f32⟩
  | 45 => ⟨S1x2048x768, .f32⟩
  | 46 => ⟨S1x2048x768, .f32⟩
  | 47 => ⟨S768x256, .f32⟩
  | 48 => ⟨S1x2048x256, .f32⟩
  | 49 => ⟨S1x2048x256, .f32⟩
  | 50 => ⟨S1x2048x256, .f32⟩
  | 51 => ⟨S1x2048x256, .f32⟩
  | 52 => ⟨S768x256, .f32⟩
  | 53 => ⟨S1x2048x256, .f32⟩
  | 54 => ⟨S1x2048x256, .f32⟩
  | 55 => ⟨S1x2048x256, .f32⟩
  | 56 => ⟨S1x2048x256, .f32⟩
  | 57 => ⟨S1x2048x12x64, .f32⟩
  | 58 => ⟨S1x2048x4x64, .f32⟩
  | 59 => ⟨S1x2048x4x64, .f32⟩
  | 60 => ⟨S1x2048x12x32x1x2, .f32⟩
  | 61 => ⟨S1x2048x1x32x2x2, .f32⟩
  | 62 => ⟨S1x2048x12x32x2x2, .f32⟩
  | 63 => ⟨S1x2048x12x32x2x2, .f32⟩
  | 64 => ⟨S1x2048x12x32x2x2, .f32⟩
  | 65 => ⟨S_, .f32⟩
  | 66 => ⟨S1x2048x12x32x2, .f32⟩
  | 67 => ⟨S1x2048x12x64, .f32⟩
  | 68 => ⟨S1x2048x4x32x1x2, .f32⟩
  | 69 => ⟨S1x2048x1x32x2x2, .f32⟩
  | 70 => ⟨S1x2048x4x32x2x2, .f32⟩
  | 71 => ⟨S1x2048x4x32x2x2, .f32⟩
  | 72 => ⟨S1x2048x4x32x2x2, .f32⟩
  | 73 => ⟨S_, .f32⟩
  | 74 => ⟨S1x2048x4x32x2, .f32⟩
  | 75 => ⟨S1x2048x4x64, .f32⟩
  | 76 => ⟨S1x2048x4x3x64, .f32⟩
  | 77 => ⟨S1x2048x12x64, .f32⟩
  | 78 => ⟨S1x2048x4x3x64, .f32⟩
  | 79 => ⟨S1x2048x12x64, .f32⟩
  | 80 => ⟨S1x12x2048x64, .f32⟩
  | 81 => ⟨S1x12x2048x64, .f32⟩
  | 82 => ⟨S1x12x2048x64, .f32⟩
  | 83 => ⟨S1x12x64x2048, .f32⟩
  | 84 => ⟨S12x2048x64, .f32⟩
  | 85 => ⟨S12x64x2048, .f32⟩
  | 86 => ⟨S12x2048x2048, .f32⟩
  | 87 => ⟨S1x12x2048x2048, .f32⟩
  | 88 => ⟨S_, .f32⟩
  | 89 => ⟨S_, .f32⟩
  | 90 => ⟨S1x12x2048x2048, .f32⟩
  | 91 => ⟨S1x12x2048x2048, .f32⟩
  | 92 => ⟨S_, .f32⟩
  | 93 => ⟨S1x12x2048, .f32⟩
  | 94 => ⟨S_, .f32⟩
  | 95 => ⟨S1x12x2048, .f32⟩
  | 96 => ⟨S1x12x2048, .f32⟩
  | 97 => ⟨S1x12x2048x1, .f32⟩
  | 98 => ⟨S1x12x2048x2048, .f32⟩
  | 99 => ⟨S1x12x2048x2048, .f32⟩
  | 100 => ⟨S1x12x2048x2048, .f32⟩
  | 101 => ⟨S_, .f32⟩
  | 102 => ⟨S1x12x2048, .f32⟩
  | 103 => ⟨S1x12x2048x1, .f32⟩
  | 104 => ⟨S1x12x2048x2048, .f32⟩
  | 105 => ⟨S1x12x2048x2048, .f32⟩
  | 106 => ⟨S12x2048x2048, .f32⟩
  | 107 => ⟨S12x2048x64, .f32⟩
  | 108 => ⟨S12x2048x64, .f32⟩
  | 109 => ⟨S1x12x2048x64, .f32⟩
  | 110 => ⟨S1x2048x12x64, .f32⟩
  | 111 => ⟨S1x2048x768, .f32⟩
  | 112 => ⟨S_, .f32⟩
  | 113 => ⟨S1x2048x768, .f32⟩
  | 114 => ⟨S_, .i32⟩
  | 115 => ⟨S1x2048, .i32⟩
  | 116 => ⟨S1x2048, .i1⟩
  | 117 => ⟨S1x2048, .f32⟩
  | 118 => ⟨S1x2048x1, .f32⟩
  | 119 => ⟨S768x768, .f32⟩
  | 120 => ⟨S1x2048x768, .f32⟩
  | 121 => ⟨S1x2048x768, .f32⟩
  | 122 => ⟨S1x2048x768, .f32⟩
  | 123 => ⟨S1x2048x768, .f32⟩
  | 124 => ⟨S_, .i32⟩
  | 125 => ⟨S1x2048, .i32⟩
  | 126 => ⟨S1x2048, .i1⟩
  | 127 => ⟨S1x2048, .f32⟩
  | _ => ⟨S1x2048x768, .f32⟩

abbrev hbmTy0_1 (i : Nat) : BufTy := match i % 128 with
  | 0 => ⟨S1x2048x1, .f32⟩
  | 1 => ⟨S768x768, .f32⟩
  | 2 => ⟨S1x2048x768, .f32⟩
  | 3 => ⟨S1x2048x768, .f32⟩
  | 4 => ⟨S1x2048x768, .f32⟩
  | 5 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_4 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_5 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_6 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_9 : Ref sig .tc := ⟨.hbm, 112, rfl⟩
abbrev main_v90 : Ref sig .tc := ⟨.hbm, 113, rfl⟩
abbrev main_c_10 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_11 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩

abbrev nD : Nat := 1
abbrev τ : Topo := Topo.v7x

variable {F : FTy → Type} [FloatOps F]
-- ==== Proof.Math.lean ====
module

public import Idealize.ShloMosaic.PureOps.Ideal.Laws
public import Mathlib.Analysis.SpecialFunctions.Pow.Real

/-! # The mathematics of one head, free of any program

Everything here is about the extended reals. A query row and the key rows are rotated pairwise by 2×2 matrices, the
scores are their inner products, and one output entry is the average of the value column weighted by the softmax of the
scores. The reference divides by the norm and subtracts the maximum before it takes `exp`; the kernel puts the scale
`1/(8·log 2)` into the rotation of the query, takes powers of two of the bare scores and divides once at the end. -/

@[expose] public section

namespace Cert.Math

open Idealize.ShloMosaic

/-- A value that is a real number (neither infinity). -/
def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

/-- A finite sum of real numbers, taken in the extended reals, is their sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem Real'.sum {ι : Type*} (s : Finset ι) {f : ι → EReal} (h : ∀ i, Real' (f i)) : Real' (∑ i ∈ s, f i) := by
  choose g hg using h
  exact ⟨∑ i ∈ s, g i, by rw [← sum_coe]; exact Finset.sum_congr rfl fun i _ => hg i⟩

/-- A real factor that is not negative may be drawn into a sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The largest of finitely many real numbers, at least one, is a real number. -/
theorem fold_max_real {ι : Type*} (s : Finset ι) (hs : s.Nonempty) (f : ι → ℝ) :
    Real' (s.fold max (⊥ : EReal) fun i => (f i : EReal)) := by
  classical
  induction hs using Finset.Nonempty.cons_induction with
  | singleton a => exact ⟨f a, by simp⟩
  | cons a s ha _ ih =>
    obtain ⟨M, hM⟩ := ih
    refine ⟨max (f a) M, ?_⟩
    rw [Finset.fold_cons, hM]
    exact (EReal.coe_strictMono.monotone.map_max).symm

/-! ## The rotation of pairs -/

/-- The pair an index of a head's 64 entries lies in. -/
def pr (i : Fin 64) : Fin 32 := ⟨i.val / 2, by omega⟩

/-- The side of its pair an index is on. -/
def sd (i : Fin 64) : Fin 2 := ⟨i.val % 2, by omega⟩

/-- Entry `b` of pair `j`. -/
def at2 (j : Fin 32) (b : Fin 2) : Fin 64 := ⟨2 * j.val + b.val, by omega⟩

/-- The other entry of the same pair. -/
def sw (i : Fin 64) : Fin 64 := ⟨2 * (i.val / 2) + (1 - i.val % 2), by omega⟩

/-- The other side. -/
def co (b : Fin 2) : Fin 2 := ⟨1 - b.val, by omega⟩

/-- The rotated row as the reference writes it: each pair times its 2×2 matrix, summed over the pair. -/
noncomputable def rot (y : Fin 64 → EReal) (f : Fin 32 → Fin 2 → Fin 2 → EReal) (i : Fin 64) : EReal :=
  ∑ b : Fin 2, y (at2 (pr i) b) * f (pr i) (sd i) b

/-- The rotated row as the kernel writes it: the row times the diagonal coefficients plus the row with each pair's
    entries exchanged times the off-diagonal ones, every coefficient having gone through `g`. -/
noncomputable def rotSw (g : EReal → EReal) (y : Fin 64 → EReal) (f : Fin 32 → Fin 2 → Fin 2 → EReal) (i : Fin 64) : EReal :=
  y i * g (f (pr i) (sd i) (sd i)) + y (sw i) * g (f (pr i) (sd i) (co (sd i)))

theorem at2_pr_sd (i : Fin 64) : at2 (pr i) (sd i) = i := by
  apply Fin.ext
  show 2 * (i.val / 2) + i.val % 2 = i.val
  omega

theorem at2_pr_co (i : Fin 64) : at2 (pr i) (co (sd i)) = sw i := rfl

theorem sum_sides (g : Fin 2 → EReal) (b : Fin 2) : ∑ c : Fin 2, g c = g b + g (co b) := by
  rw [Fin.sum_univ_two]
  have h : b = 0 ∨ b = 1 := by omega
  rcases h with rfl | rfl
  · rfl
  · rw [add_comm]; rfl

/-- The two ways to write the rotation agree at any values. -/
theorem rotSw_id (y : Fin 64 → EReal) (f : Fin 32 → Fin 2 → Fin 2 → EReal) (i : Fin 64) :
    rotSw (fun x => x) y f i = rot y f i := by
  unfold rot rotSw
  rw [sum_sides _ (sd i), at2_pr_sd, at2_pr_co]

/-- A real scale on the coefficients is a scale on the rotated row, where everything is real. -/
theorem rotSw_scale {y : Fin 64 → EReal} {f : Fin 32 → Fin 2 → Fin 2 → EReal} (hy : ∀ i, Real' (y i))
    (hf : ∀ j a b, Real' (f j a b)) (c : ℝ) (i : Fin 64) :
    rotSw (fun x => x * (c : EReal)) y f i = rot y f i * (c : EReal) := by
  rw [← rotSw_id]
  unfold rotSw
  obtain ⟨a, ha⟩ := hy i
  obtain ⟨b, hb⟩ := hy (sw i)
  obtain ⟨u, hu⟩ := hf (pr i) (sd i) (sd i)
  obtain ⟨v, hv⟩ := hf (pr i) (sd i) (co (sd i))
  rw [ha, hb, hu, hv]
  simp only [← EReal.coe_mul, ← EReal.coe_add]
  congr 1
  ring

theorem rot_real {y : Fin 64 → EReal} {f : Fin 32 → Fin 2 → Fin 2 → EReal} (hy : ∀ i, Real' (y i))
    (hf : ∀ j a b, Real' (f j a b)) (i : Fin 64) : Real' (rot y f i) :=
  Real'.sum _ fun _ => (hy _).mul (hf _ _ _)

/-- A product with the 0/1 matrix that exchanges the entries of each pair picks the other entry, at any values. -/
theorem swap_sum (y : Fin 64 → EReal) (i : Fin 64) :
    ∑ k : Fin 64, (if k = sw i then (1 : EReal) else 0) * y k = y (sw i) := by
  rw [Finset.sum_eq_single (sw i)]
  · rw [if_pos rfl, one_mul]
  · intro k _ hk
    rw [if_neg hk, zero_mul]
  · intro h
    exact absurd (Finset.mem_univ _) h

/-! ## The weighted average -/

/-- One entry of the reference's attention: query row `Q`, key rows `K`, value column `V`. -/
noncomputable def attn (Q : Fin 64 → EReal) (K : Fin 2048 → Fin 64 → EReal) (V : Fin 2048 → EReal) : EReal :=
  let s : Fin 2048 → EReal := fun k => Ideal.div (∑ i, Q i * K k i) (Ideal.sqrt ((64 : ℝ) : EReal))
  let M : EReal := max ⊥ ((Finset.univ : Finset (Fin 2048)).fold max ⊥ s)
  ∑ k, Ideal.div (Ideal.exp (s k - M)) (0 + ∑ j, Ideal.exp (s j - M)) * V k

/-- The same entry as the kernel computes it from the scaled query row. -/
noncomputable def attn2 (Q : Fin 64 → EReal) (K : Fin 2048 → Fin 64 → EReal) (V : Fin 2048 → EReal) : EReal :=
  (∑ k, V k * Ideal.exp2 (∑ i, K k i * Q i)) * Ideal.div 1 (∑ k, 1 * Ideal.exp2 (∑ i, K k i * Q i))

/-- The softmax average does not depend on the number subtracted in the exponents: it is one division of two sums. -/
theorem softmax_avg {n : ℕ} (hn : 0 < n) (s : Fin n → ℝ) (M : ℝ) (V : Fin n → EReal) :
    ∑ k, Ideal.div (Ideal.exp ((s k : EReal) - (M : EReal))) (0 + ∑ j, Ideal.exp ((s j : EReal) - (M : EReal))) * V k
      = (∑ k, V k * (Real.exp (s k) : EReal)) * Ideal.div 1 (∑ k, 1 * (Real.exp (s k) : EReal)) := by
  have : NeZero n := ⟨hn.ne'⟩
  have hL : 0 < ∑ j, Real.exp (s j) :=
    Finset.sum_pos (fun j _ => Real.exp_pos _) ⟨0, Finset.mem_univ _⟩
  have hden : (0 + ∑ j, Ideal.exp ((s j : EReal) - (M : EReal)))
      = ((Real.exp (-M) * ∑ j, Real.exp (s j) : ℝ) : EReal) := by
    rw [zero_add, Finset.mul_sum, ← sum_coe]
    refine Finset.sum_congr rfl fun j _ => ?_
    rw [← EReal.coe_sub, Ideal.exp_coe, ← Real.exp_add]
    congr 2
    ring
  have hden' : (Real.exp (-M) * ∑ j, Real.exp (s j)) ≠ 0 := (mul_pos (Real.exp_pos _) hL).ne'
  have hone : (∑ k, 1 * (Real.exp (s k) : EReal)) = ((∑ j, Real.exp (s j) : ℝ) : EReal) := by
    rw [← sum_coe]
    exact Finset.sum_congr rfl fun j _ => one_mul _
  rw [hden, hone, Ideal.div_coe hL.ne', one_mul, sum_mul_real _ _ (by positivity)]
  refine Finset.sum_congr rfl fun k _ => ?_
  rw [Ideal.div_coe hden', ← EReal.coe_sub, Ideal.exp_coe, mul_comm _ (V k), mul_assoc, ← EReal.coe_mul,
    ← EReal.coe_mul]
  congr 2
  rw [sub_eq_add_neg, Real.exp_add]
  have he : Real.exp (-M) ≠ 0 := (Real.exp_pos _).ne'
  field_simp

/-- A power of two with the exponent scaled by `1/(8·log 2)` is `exp` of an eighth of it. -/
theorem exp2_scaled (d : ℝ) : Ideal.exp2 ((d * (8 * Real.log 2)⁻¹ : ℝ) : EReal) = (Real.exp (d / 8) : EReal) := by
  have h2 : Real.log 2 ≠ 0 := (Real.log_pos (by norm_num)).ne'
  rw [Ideal.exp2_coe]
  congr 1
  show (2 : ℝ) ^ (d * (8 * Real.log 2)⁻¹) = _
  rw [Real.rpow_def_of_pos (by norm_num)]
  congr 1
  field_simp

/-- The kernel's entry from the scaled query is the reference's entry, for real query and key rows and any values. -/
theorem attn2_eq {Q Q' : Fin 64 → EReal} {K : Fin 2048 → Fin 64 → EReal} (V : Fin 2048 → EReal)
    (hQ : ∀ i, Real' (Q i)) (hK : ∀ k i, Real' (K k i))
    (hQ' : ∀ i, Q' i = Q i * (((8 * Real.log 2)⁻¹ : ℝ) : EReal)) : attn2 Q' K V = attn Q K V := by
  choose q hq using hQ
  choose κ hκ using hK
  have hs : ∀ k, Ideal.div (∑ i, Q i * K k i) (Ideal.sqrt ((64 : ℝ) : EReal))
      = (((∑ i, q i * κ k i) / 8 : ℝ) : EReal) := by
    intro k
    have h8 : Ideal.sqrt ((64 : ℝ) : EReal) = ((8 : ℝ) : EReal) := by
      rw [Ideal.sqrt_coe, if_neg (by norm_num)]
      congr 1
      rw [show (64 : ℝ) = 8 ^ 2 by norm_num]
      exact Real.sqrt_sq (by norm_num)
    rw [h8, Ideal.div_coe (by norm_num), show (∑ i, Q i * K k i) = ((∑ i, q i * κ k i : ℝ) : EReal) from ?_,
      ← EReal.coe_mul, mul_one_div]
    rw [← sum_coe]
    exact Finset.sum_congr rfl fun i _ => by rw [hq, hκ, EReal.coe_mul]
  have he : ∀ k, Ideal.exp2 (∑ i, K k i * Q' i) = (Real.exp ((∑ i, q i * κ k i) / 8) : EReal) := by
    intro k
    rw [← exp2_scaled, Finset.sum_mul, ← sum_coe]
    congr 1
    refine Finset.sum_congr rfl fun i _ => ?_
    rw [hQ', hq, hκ, ← EReal.coe_mul, ← EReal.coe_mul]
    congr 1
    ring
  unfold attn attn2
  simp only [hs, he]
  obtain ⟨M, hM⟩ := fold_max_real (Finset.univ : Finset (Fin 2048)) ⟨0, Finset.mem_univ _⟩
    fun k => (∑ i, q i * κ k i) / 8
  rw [hM, max_eq_right bot_le]
  exact (softmax_avg (by norm_num) _ M V).symm

/-! ## Sums in pieces, and the choice by a mask -/

/-- A sum over 2048 rows is the sum of four sums over 512 rows, in order. -/
theorem sum_four (f : Fin 2048 → EReal) :
    (∑ k : Fin 512, f ⟨k.val, by omega⟩) + (∑ k : Fin 512, f ⟨512 + k.val, by omega⟩)
        + (∑ k : Fin 512, f ⟨1024 + k.val, by omega⟩) + (∑ k : Fin 512, f ⟨1536 + k.val, by omega⟩)
      = ∑ k, f k := by
  have h1 := Fin.sum_univ_add (a := 1536) (b := 512) f
  have h2 := Fin.sum_univ_add (a := 1024) (b := 512) fun k => f (Fin.castAdd 512 k)
  have h3 := Fin.sum_univ_add (a := 512) (b := 512) fun k => f (Fin.castAdd 512 (Fin.castAdd 512 k))
  exact (h1.trans (by rw [h2, h3]; rfl)).symm

/-- The reference's sum of two masked arms, of which a row has one. -/
theorem mask_sum_fst (a b : EReal) : (0 + 1 * a) + 0 * b = a := by simp

theorem mask_sum_snd (a b : EReal) : (0 + 0 * a) + 1 * b = b := by simp

end Cert.Math
-- ==== Proof.Pay.lean ====
module

public import proofs.«01_k».proof.Proof.Gen.KernelIdeal.Skeleton
public import proofs.«01_k».proof.Proof.Math
public import Idealize.ShloMosaic.Lib.Pointwise
public import Idealize.ShloMosaic.Lib.IdealHost

/-! # What each kernel body stores, at an index

The values the three bodies compute, read at one entry: a projected entry is one of two inner products, chosen by the
row's mask; a rotated entry is `rotSw` of the column; an attention entry is `attn2`; an output entry is again one of two
inner products. -/

@[expose] public section

set_option maxRecDepth 16384

noncomputable section

namespace Cert.KernelIdeal.Pay

open Cert.KernelIdeal.Gen Cert.Math Idealize.ShloMosaic

/-- One entry of a masked product: the first weights' inner product where the mask is positive, else the second's. -/
def pick (mk : EReal) (a b : EReal) : EReal := if 0 < mk then a else b

/-! ## The projections -/

theorem projQ (x : Vec Ideal S1024x768 .f32) (mk : Vec Ideal S1x1024 .f32) (wt wi : Vec Ideal S768x768 .f32)
    (r : Fin 768) (t : Fin 1024) :
    k0_pay4 x mk wt wi (ix2 r t)
      = pick (mk (ix2 0 t)) (∑ d : Fin 768, wt (ix2 r d) * x (ix2 t d)) (∑ d : Fin 768, wi (ix2 r d) * x (ix2 t d)) := by
  unfold pick
  pointwise [k0_pay4, k0_pay2, k0_pay3]

theorem projK (x : Vec Ideal S1024x768 .f32) (mk : Vec Ideal S1x1024 .f32) (wt wi : Vec Ideal S256x768 .f32)
    (r : Fin 256) (t : Fin 1024) :
    k0_pay5 x mk wt wi (ix2 r t)
      = pick (mk (ix2 0 t)) (∑ d : Fin 768, wt (ix2 r d) * x (ix2 t d)) (∑ d : Fin 768, wi (ix2 r d) * x (ix2 t d)) := by
  unfold pick
  pointwise [k0_pay5, k0_pay2, k0_pay3]

theorem projV (x : Vec Ideal S1024x768 .f32) (mk : Vec Ideal S1x1024 .f32) (wt wi : Vec Ideal S256x768 .f32)
    (r : Fin 256) (t : Fin 1024) :
    k0_pay1 (k0_pay6 x wt) (k0_pay7 x wi) (k0_pay8 mk) (ix2 r t)
      = pick (mk (ix2 0 t)) (∑ d : Fin 768, wt (ix2 r d) * x (ix2 t d)) (∑ d : Fin 768, wi (ix2 r d) * x (ix2 t d)) := by
  unfold pick
  pointwise [k0_pay1, k0_pay6, k0_pay7, k0_pay8, k0_pay2, k0_pay3]

/-- The output projection's entry. -/
theorem projO (o : Vec Ideal S768x1024 .bf16) (mk : Vec Ideal S1024x1 .f32) (wt wi : Vec Ideal S768x768 .f32)
    (t : Fin 1024) (j : Fin 768) :
    k2_pay1 o wt wi mk (ix2 t j)
      = pick (mk (ix2 t 0)) (∑ r : Fin 768, o (ix2 r t) * wt (ix2 j r)) (∑ r : Fin 768, o (ix2 r t) * wi (ix2 j r)) := by
  unfold pick
  pointwise [k2_pay1]

/-! ## The attention -/

/-- The matrix that exchanges the entries of each pair. -/
def IsSwap (p : Vec Ideal S64x64 .bf16) : Prop := ∀ i k : Fin 64, p (ix2 i k) = if k = sw i then 1 else 0

/-- The named query scale. -/
def qs : EReal := Named.named (F := Ideal) (φ := .f32) κ "qscale" 0x3E38AA3B#32

theorem rotQ (p : Vec Ideal S64x64 .bf16) (hp : IsSwap p) (a b : Vec Ideal S64x2048 .f32) (y : Vec Ideal S64x2048 .bf16)
    (i : Fin 64) (t : Fin 2048) :
    k1_pay2 p a b y (ix2 i t) = y (ix2 i t) * (a (ix2 i t) * qs) + y (ix2 (sw i) t) * (b (ix2 i t) * qs) := by
  have h := swap_sum (fun k => y (ix2 k t)) i
  unfold qs
  pointwise [k1_pay2]
  simp only [hp i, h]

theorem rotK (p : Vec Ideal S64x64 .bf16) (hp : IsSwap p) (a b : Vec Ideal S64x2048 .f32) (y : Vec Ideal S64x2048 .bf16)
    (i : Fin 64) (t : Fin 2048) :
    k1_pay3 p a b y (ix2 i t) = y (ix2 i t) * a (ix2 i t) + y (ix2 (sw i) t) * b (ix2 i t) := by
  have h := swap_sum (fun k => y (ix2 k t)) i
  pointwise [k1_pay3]
  simp only [hp i, h]

/-- The values with eight rows of ones under them: a value row. -/
theorem va_row (v : Vec Ideal S64x2048 .bf16) (r : Fin 64) (t : Fin 2048) :
    k1_pay4 v (ix2 (⟨r.val, by omega⟩ : Fin 72) t) = v (ix2 r t) := by
  pointwise [k1_pay4]

/-- The values with eight rows of ones under them: the first row of ones. -/
theorem va_one (v : Vec Ideal S64x2048 .bf16) (t : Fin 2048) : k1_pay4 v (ix2 (64 : Fin 72) t) = 1 := by
  pointwise [k1_pay4]

/-- One entry of a head's output block, from the rotated query and key blocks and the value block. -/
theorem attnEntry (p : Vec Ideal S64x64 .bf16) (qa qb ka kb : Vec Ideal S64x2048 .f32) (yq yk yv : Vec Ideal S64x2048 .bf16)
    (r : Fin 64) (t : Fin 2048) :
    k1_pay1 (k1_pay2 p qa qb yq) (k1_pay3 p ka kb yk) (k1_pay4 yv) (k1_pay5 p qa qb yq ka kb yk) (ix2 r t)
      = attn2 (fun i => k1_pay2 p qa qb yq (ix2 i t)) (fun k i => k1_pay3 p ka kb yk (ix2 i k)) (fun k => yv (ix2 r k)) := by
  unfold attn2 k1_pay5
  rw [← sum_four (fun k => yv (ix2 r k) * _), ← sum_four (fun k => 1 * _)]
  generalize hq : k1_pay2 p qa qb yq = q
  generalize hk : k1_pay3 p ka kb yk = k
  have h1 := va_row yv r
  have h2 := va_one yv
  generalize k1_pay4 yv = va at h1 h2
  pointwise [k1_pay1]
  simp only [h1, h2, one_mul]
  rfl

end Cert.KernelIdeal.Pay
-- ==== Proof.Qkv.lean ====
module

public import proofs.«01_k».proof.Proof.Gen.KernelIdeal.Frame
public import proofs.«01_k».proof.Proof.Pay
public import Idealize.ShloMosaic.Lib.Pipeline.ValueKit

/-! # The projections' region: its result array as a function of the arrays it reads

The 1280 rows of the result are the 768 query rows, the 256 key rows and the 256 value rows, one under the other. -/

@[expose] public section

set_option maxRecDepth 16384

noncomputable section

namespace Cert.KernelIdeal.Qkv

open Cert.KernelIdeal.Gen Cert.KernelIdeal.Pay Cert.Math
open Idealize.ShloMosaic Idealize.ShloMosaic.TcCoe
open Idealize.ShloMosaic.Pipeline (Dat)

variable (V : (c : Dev nD) → (b : Ref sig .tc) → Buf (Elt Ideal) ((c : Thread nD τ).loc b))

/-- One entry of a projection by weights of `n` rows: row `r`, token `t`. -/
def proj {n : ℕ} (X : S2048x768.Idx → EReal) (mk : S1x2048.Idx → EReal) (wt wi : (⟨2, ![n, 768]⟩ : Shape).Idx → EReal)
    (r : Fin n) (t : Fin 2048) : EReal :=
  pick (mk (ix2 0 t)) (∑ d : Fin 768, wt (ix2 r d) * X (ix2 t d)) (∑ d : Fin 768, wi (ix2 r d) * X (ix2 t d))

/-- The stacked projections. -/
def out (X : S2048x768.Idx → EReal) (mk : S1x2048.Idx → EReal) (wqt wqi : S768x768.Idx → EReal)
    (wkt wki wvt wvi : S256x768.Idx → EReal) (r : Fin 1280) (t : Fin 2048) : EReal :=
  if h : r.val < 768 then proj (n := 768) X mk wqt wqi ⟨r.val, h⟩ t
  else if h' : r.val < 1024 then proj (n := 256) X mk wkt wki ⟨r.val - 768, by omega⟩ t
  else proj (n := 256) X mk wvt wvi ⟨r.val - 1024, by omega⟩ t

section Rows

variable (X : S2048x768.Idx → EReal) (mk : S1x2048.Idx → EReal) (wqt wqi : S768x768.Idx → EReal)
  (wkt wki wvt wvi : S256x768.Idx → EReal) (t : Fin 2048)

theorem out_q (a : Fin 768) :
    out X mk wqt wqi wkt wki wvt wvi ⟨a.val, by omega⟩ t = proj (n := 768) X mk wqt wqi a t := by
  unfold out
  rw [dif_pos (show a.val < 768 from a.isLt)]

theorem out_k (a : Fin 256) :
    out X mk wqt wqi wkt wki wvt wvi ⟨768 + a.val, by omega⟩ t = proj (n := 256) X mk wkt wki a t := by
  unfold out
  rw [dif_neg (show ¬ 768 + a.val < 768 by omega), dif_pos (show 768 + a.val < 1024 by omega)]
  exact congrArg (fun b => proj (n := 256) X mk wkt wki b t) (Fin.ext (Nat.add_sub_cancel_left 768 a.val))

theorem out_v (a : Fin 256) :
    out X mk wqt wqi wkt wki wvt wvi ⟨1024 + a.val, by omega⟩ t = proj (n := 256) X mk wvt wvi a t := by
  unfold out
  rw [dif_neg (show ¬ 1024 + a.val < 768 by omega), dif_neg (show ¬ 1024 + a.val < 1024 by omega)]
  exact congrArg (fun b => proj (n := 256) X mk wvt wvi b t) (Fin.ext (Nat.add_sub_cancel_left 1024 a.val))

end Rows

/-- Where each window's block lies at each grid point. -/
theorem idx : ∀ t : Fin cfg0.N, win0_0.index t = ![t.val, 0] ∧ win0_1.index t = ![0, t.val]
    ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, t.val] := by
  decide +kernel

theorem pt_lt (t : Fin cfg0.N) : t.val < 2 := lt_of_lt_of_eq t.isLt N_0

theorem blk0 (c : Dev nD) (t : Fin cfg0.N) (k : Fin 1024) (d : Fin 768) :
    iblk0 V c 0 t (ix2 k d)
      = V c main_v0 (ix2 (⟨t.val * 1024 + k.val, by have := pt_lt t; omega⟩ : Fin 2048) d) := by
  blk_ext [iblk0, (idx t).1]

theorem blk1 (c : Dev nD) (t : Fin cfg0.N) (k : Fin 1024) :
    iblk0 V c 1 t (ix2 0 k)
      = V c main_v7 (ix2 0 (⟨t.val * 1024 + k.val, by have := pt_lt t; omega⟩ : Fin 2048)) := by
  blk_ext [iblk0, (idx t).2.1]

theorem blk2 (c : Dev nD) (t : Fin cfg0.N) (a b : Fin 768) : iblk0 V c 2 t (ix2 a b) = V c main_arg3 (ix2 a b) := by
  blk_ext [iblk0, (idx t).2.2.1]

theorem blk3 (c : Dev nD) (t : Fin cfg0.N) (a : Fin 256) (b : Fin 768) : iblk0 V c 3 t (ix2 a b) = V c main_arg5 (ix2 a b) := by
  blk_ext [iblk0, (idx t).2.2.2.1]

theorem blk4 (c : Dev nD) (t : Fin cfg0.N) (a : Fin 256) (b : Fin 768) : iblk0 V c 4 t (ix2 a b) = V c main_arg7 (ix2 a b) := by
  blk_ext [iblk0, (idx t).2.2.2.2.1]

theorem blk5 (c : Dev nD) (t : Fin cfg0.N) (a b : Fin 768) : iblk0 V c 5 t (ix2 a b) = V c main_arg4 (ix2 a b) := by
  blk_ext [iblk0, (idx t).2.2.2.2.2.1]

theorem blk6 (c : Dev nD) (t : Fin cfg0.N) (a : Fin 256) (b : Fin 768) : iblk0 V c 6 t (ix2 a b) = V c main_arg6 (ix2 a b) := by
  blk_ext [iblk0, (idx t).2.2.2.2.2.2.1]

theorem blk7 (c : Dev nD) (t : Fin cfg0.N) (a : Fin 256) (b : Fin 768) : iblk0 V c 7 t (ix2 a b) = V c main_arg8 (ix2 a b) := by
  blk_ext [iblk0, (idx t).2.2.2.2.2.2.2.1]

/-- The region's result from the arrays it reads. -/
abbrev res (c : Dev nD) (r : Fin 1280) (t : Fin 2048) : EReal :=
  out (V c main_v0) (V c main_v7) (V c main_arg3) (V c main_arg4) (V c main_arg5) (V c main_arg6) (V c main_arg7) (V c main_arg8) r t

/-- What the body leaves at point `t`, at an entry. -/
theorem left (c : Dev nD) (t : Fin cfg0.N) (r : Fin 1280) (k : Fin 1024) :
    (dat0 V c).after 8 t (ix2 r k) = res V c r ⟨t.val * 1024 + k.val, by have := pt_lt t; omega⟩ := by
  rw [after0_8]
  unfold outsAt0
  frame_out
  canon_tiles x h using (View.cover_of_tiledBy _ ![256, 1024] (by sl_kernel_rfl) _)
  · obtain ⟨a, b, rfl⟩ : ∃ (a : Fin 256) (b : Fin 1024), x = ix2 a b := ⟨x 0, x 1, eq_ix2 x⟩
    have hr : r = ⟨1024 + a.val, by omega⟩ := Fin.ext h0
    have hk : k = b := Fin.ext h1
    rw [hr, hk, projV, blk1]
    simp only [blk0, blk4, blk7]
    exact (out_v ..).symm
  · obtain ⟨a, b, rfl⟩ : ∃ (a : Fin 256) (b : Fin 1024), x = ix2 a b := ⟨x 0, x 1, eq_ix2 x⟩
    have hr : r = ⟨768 + a.val, by omega⟩ := Fin.ext h0
    have hk : k = b := Fin.ext h1
    rw [hr, hk, projK, blk1]
    simp only [blk0, blk3, blk6]
    exact (out_k ..).symm
  · obtain ⟨a, b, rfl⟩ : ∃ (a : Fin 768) (b : Fin 1024), x = ix2 a b := ⟨x 0, x 1, eq_ix2 x⟩
    have hr : r = ⟨a.val, by omega⟩ := Fin.ext h0
    have hk : k = b := Fin.ext h1
    rw [hr, hk, projQ, blk1]
    simp only [blk0, blk2, blk5]
    exact (out_q ..).symm

/-- Where the written block's entries lie in the result array. -/
theorem emb0 (t : Fin cfg0.N) (y : ((cfg0.win 8).xblock (cfg0.grid.coords t)).Idx) :
    (((win0_8.blk t).view.emb y) 0).val = (y 0).val := by
  have e : win0_8.index t 0 = 0 := congrFun (idx t).2.2.2.2.2.2.2.2 0
  blk_simp
  rw [e, Nat.zero_mul, Nat.zero_add]

theorem emb1 (t : Fin cfg0.N) (y : ((cfg0.win 8).xblock (cfg0.grid.coords t)).Idx) :
    (((win0_8.blk t).view.emb y) 1).val = t.val * 1024 + (y 1).val := by
  have e : win0_8.index t 1 = t.val := congrFun (idx t).2.2.2.2.2.2.2.2 1
  blk_simp
  rw [e]

theorem covers : (cfg0.win 8).Covers := by decide +kernel

/-- The projections' result array. -/
theorem arr (c : Dev nD) : (dat0 V c).arrAt 8 cfg0.N = fun i : S1280x2048.Idx => res V c (i 0) (i 1) := by
  refine (dat0 V c).arrAt_eq_of_covers 8 _ covers fun t hf y => ?_
  blk_simp
  obtain ⟨a, b, hy⟩ : ∃ (a : Fin 1280) (b : Fin 1024), y = ix2 a b := ⟨y 0, y 1, eq_ix2 y⟩
  have e0 : (win0_8.blk t).view.emb y 0 = a := Fin.ext ((emb0 t y).trans (by rw [hy]; rfl))
  have e1 : (win0_8.blk t).view.emb y 1 = (⟨t.val * 1024 + b.val, by have := pt_lt t; omega⟩ : Fin 2048) :=
    Fin.ext ((emb1 t y).trans (by rw [hy]; rfl))
  rw [e0, e1, hy]
  exact left V c t a b

end Cert.KernelIdeal.Qkv
-- ==== Proof.Attn.lean ====
module

public import proofs.«01_k».proof.Proof.Gen.KernelIdeal.Frame
public import proofs.«01_k».proof.Proof.Pay
public import Idealize.ShloMosaic.Lib.Pipeline.ValueKit

/-! # The attention region: its result array as a function of the arrays it reads -/

@[expose] public section

set_option maxRecDepth 16384

noncomputable section

namespace Cert.KernelIdeal.Attn

open Cert.KernelIdeal.Gen Cert.KernelIdeal.Pay Cert.Math
open Idealize.ShloMosaic Idealize.ShloMosaic.TcCoe
open Idealize.ShloMosaic.Pipeline (Dat)

variable (V : (c : Dev nD) → (b : Ref sig .tc) → Buf (Elt Ideal) ((c : Thread nD τ).loc b))

/-- The rotated, scaled query entry `a` of head `h` at token `t`. -/
def qAt (Y : S1280x2048.Idx → EReal) (A B : S64x2048.Idx → EReal) (h : Fin 12) (t : Fin 2048) (a : Fin 64) : EReal :=
  Y (ix2 ⟨h.val * 64 + a.val, by omega⟩ t) * (A (ix2 a t) * qs)
    + Y (ix2 ⟨h.val * 64 + (sw a).val, by omega⟩ t) * (B (ix2 a t) * qs)

/-- The rotated key entry `a` of head `h`'s key group at token `k`. -/
def kAt (Y : S1280x2048.Idx → EReal) (A B : S64x2048.Idx → EReal) (h : Fin 12) (k : Fin 2048) (a : Fin 64) : EReal :=
  Y (ix2 ⟨(12 + h.val / 3) * 64 + a.val, by omega⟩ k) * A (ix2 a k)
    + Y (ix2 ⟨(12 + h.val / 3) * 64 + (sw a).val, by omega⟩ k) * B (ix2 a k)

/-- The value entry `r` of head `h`'s value group at token `k`. -/
def vAt (Y : S1280x2048.Idx → EReal) (h : Fin 12) (r : Fin 64) (k : Fin 2048) : EReal :=
  Y (ix2 ⟨(16 + h.val / 3) * 64 + r.val, by omega⟩ k)

/-- The attention output: row `64 h + r` is entry `r` of head `h`, the column is the query's token. -/
def out (Y : S1280x2048.Idx → EReal) (A B : S64x2048.Idx → EReal) (r : Fin 768) (t : Fin 2048) : EReal :=
  attn2 (qAt Y A B ⟨r.val / 64, by omega⟩ t) (kAt Y A B ⟨r.val / 64, by omega⟩)
    (vAt Y ⟨r.val / 64, by omega⟩ ⟨r.val % 64, by omega⟩)

/-- Where each window's block lies at each grid point. -/
theorem idx : ∀ t : Fin cfg1.N, win1_0.index t = ![t.val, 0] ∧ win1_1.index t = ![12 + t.val / 3, 0]
    ∧ win1_2.index t = ![16 + t.val / 3, 0] ∧ win1_3.index t = ![0, 0] ∧ win1_4.index t = ![0, 0]
    ∧ win1_5.index t = ![0, 0] ∧ win1_6.index t = ![0, 0] ∧ win1_7.index t = ![0, 0] ∧ win1_8.index t = ![t.val, 0] := by
  decide +kernel

theorem pt_lt (t : Fin cfg1.N) : t.val < 12 := lt_of_lt_of_eq t.isLt N_1

theorem blk0 (c : Dev nD) (t : Fin cfg1.N) (a : Fin 64) (k : Fin 2048) :
    iblk1 V c 0 t (ix2 a k)
      = V c main_v26 (ix2 (⟨t.val * 64 + a.val, by have := pt_lt t; omega⟩ : Fin 1280) k) := by
  blk_ext [iblk1, (idx t).1]

theorem blk1 (c : Dev nD) (t : Fin cfg1.N) (a : Fin 64) (k : Fin 2048) :
    iblk1 V c 1 t (ix2 a k)
      = V c main_v26 (ix2 (⟨(12 + t.val / 3) * 64 + a.val, by have := pt_lt t; omega⟩ : Fin 1280) k) := by
  blk_ext [iblk1, (idx t).2.1]

theorem blk2 (c : Dev nD) (t : Fin cfg1.N) (a : Fin 64) (k : Fin 2048) :
    iblk1 V c 2 t (ix2 a k)
      = V c main_v26 (ix2 (⟨(16 + t.val / 3) * 64 + a.val, by have := pt_lt t; omega⟩ : Fin 1280) k) := by
  blk_ext [iblk1, (idx t).2.2.1]

theorem blk3 (c : Dev nD) (t : Fin cfg1.N) (a : Fin 64) (k : Fin 2048) : iblk1 V c 3 t (ix2 a k) = V c main_v16 (ix2 a k) := by
  blk_ext [iblk1, (idx t).2.2.2.1]

theorem blk4 (c : Dev nD) (t : Fin cfg1.N) (a : Fin 64) (k : Fin 2048) : iblk1 V c 4 t (ix2 a k) = V c main_v25 (ix2 a k) := by
  blk_ext [iblk1, (idx t).2.2.2.2.1]

theorem blk5 (c : Dev nD) (t : Fin cfg1.N) (a : Fin 64) (k : Fin 2048) : iblk1 V c 5 t (ix2 a k) = V c main_v16 (ix2 a k) := by
  blk_ext [iblk1, (idx t).2.2.2.2.2.1]

theorem blk6 (c : Dev nD) (t : Fin cfg1.N) (a : Fin 64) (k : Fin 2048) : iblk1 V c 6 t (ix2 a k) = V c main_v25 (ix2 a k) := by
  blk_ext [iblk1, (idx t).2.2.2.2.2.2.1]

theorem blk7 (c : Dev nD) (t : Fin cfg1.N) (a k : Fin 64) : iblk1 V c 7 t (ix2 a k) = V c main_cst (ix2 a k) := by
  blk_ext [iblk1, (idx t).2.2.2.2.2.2.2.1]

/-- What the body leaves at point `t`, at an entry. -/
theorem left (c : Dev nD) (hp : IsSwap (V c main_cst)) (t : Fin cfg1.N) (r : Fin 64) (k : Fin 2048) :
    (dat1 V c).after 8 t (ix2 r k)
      = out (V c main_v26) (V c main_v16) (V c main_v25) ⟨t.val * 64 + r.val, by have := pt_lt t; omega⟩ k := by
  have hs : IsSwap (iblk1 V c 7 t) := fun a b => (blk7 V c t a b).trans (hp a b)
  have ht := pt_lt t
  rw [after1_8]
  frame_out
  rw [attnEntry]
  unfold out
  have e1 : (t.val * 64 + r.val) / 64 = t.val := by omega
  have e2 : (t.val * 64 + r.val) % 64 = r.val := by omega
  simp only [e1, e2]
  congr 1
  · funext a
    rw [rotQ _ hs, blk0, blk0, blk3, blk4]
    rfl
  · funext s a
    rw [rotK _ hs, blk1, blk1, blk5, blk6]
    rfl
  · funext s
    rw [blk2]
    rfl

/-- Where the written block's entries lie in the result array. -/
theorem emb0 (t : Fin cfg1.N) (y : ((cfg1.win 8).xblock (cfg1.grid.coords t)).Idx) :
    (((win1_8.blk t).view.emb y) 0).val = t.val * 64 + (y 0).val := by
  have e : win1_8.index t 0 = t.val := congrFun (idx t).2.2.2.2.2.2.2.2 0
  blk_simp
  rw [e]

theorem emb1 (t : Fin cfg1.N) (y : ((cfg1.win 8).xblock (cfg1.grid.coords t)).Idx) :
    (((win1_8.blk t).view.emb y) 1).val = (y 1).val := by
  have e : win1_8.index t 1 = 0 := congrFun (idx t).2.2.2.2.2.2.2.2 1
  blk_simp
  rw [e, Nat.zero_mul, Nat.zero_add]

theorem covers : (cfg1.win 8).Covers := by decide +kernel

/-- The attention region's result array. -/
theorem arr (c : Dev nD) (hp : IsSwap (V c main_cst)) : (dat1 V c).arrAt 8 cfg1.N
      = fun i : S768x2048.Idx => out (V c main_v26) (V c main_v16) (V c main_v25) (i 0) (i 1) := by
  refine (dat1 V c).arrAt_eq_of_covers 8 _ covers fun t hf y => ?_
  blk_simp
  obtain ⟨a, b, hy⟩ : ∃ (a : Fin 64) (b : Fin 2048), y = ix2 a b := ⟨y 0, y 1, eq_ix2 y⟩
  have e0 : (win1_8.blk t).view.emb y 0 = (⟨t.val * 64 + a.val, by have := pt_lt t; omega⟩ : Fin 768) :=
    Fin.ext ((emb0 t y).trans (by rw [hy]; rfl))
  have e1 : (win1_8.blk t).view.emb y 1 = b := Fin.ext ((emb1 t y).trans (by rw [hy]; rfl))
  rw [e0, e1, hy]
  exact left V c hp t a b

end Cert.KernelIdeal.Attn
-- ==== Proof.Oproj.lean ====
module

public import proofs.«01_k».proof.Proof.Gen.KernelIdeal.Frame
public import proofs.«01_k».proof.Proof.Pay
public import Idealize.ShloMosaic.Lib.Pipeline.ValueKit

/-! # The output projection's region: its result array as a function of the arrays it reads -/

@[expose] public section

set_option maxRecDepth 16384

noncomputable section

namespace Cert.KernelIdeal.Oproj

open Cert.KernelIdeal.Gen Cert.KernelIdeal.Pay Cert.Math
open Idealize.ShloMosaic Idealize.ShloMosaic.TcCoe
open Idealize.ShloMosaic.Pipeline (Dat)

variable (V : (c : Dev nD) → (b : Ref sig .tc) → Buf (Elt Ideal) ((c : Thread nD τ).loc b))

/-- The output: token `t`'s attention column against row `j` of the weights its mask chooses. -/
def out (O : S768x2048.Idx → EReal) (mk : S2048x1.Idx → EReal) (wt wi : S768x768.Idx → EReal) (t : Fin 2048) (j : Fin 768) :
    EReal :=
  pick (mk (ix2 t 0)) (∑ r : Fin 768, O (ix2 r t) * wt (ix2 j r)) (∑ r : Fin 768, O (ix2 r t) * wi (ix2 j r))

/-- Where each window's block lies at each grid point. -/
theorem idx : ∀ t : Fin cfg2.N, win2_0.index t = ![0, t.val] ∧ win2_1.index t = ![t.val, 0]
    ∧ win2_2.index t = ![0, 0] ∧ win2_3.index t = ![0, 0] ∧ win2_4.index t = ![t.val, 0] := by
  decide +kernel

theorem pt_lt (t : Fin cfg2.N) : t.val < 2 := lt_of_lt_of_eq t.isLt N_2

theorem blk0 (c : Dev nD) (t : Fin cfg2.N) (r : Fin 768) (k : Fin 1024) :
    iblk2 V c 0 t (ix2 r k)
      = V c main_v27 (ix2 r (⟨t.val * 1024 + k.val, by have := pt_lt t; omega⟩ : Fin 2048)) := by
  blk_ext [iblk2, (idx t).1]

theorem blk1 (c : Dev nD) (t : Fin cfg2.N) (k : Fin 1024) :
    iblk2 V c 1 t (ix2 k 0)
      = V c main_v5 (ix2 (⟨t.val * 1024 + k.val, by have := pt_lt t; omega⟩ : Fin 2048) 0) := by
  blk_ext [iblk2, (idx t).2.1]

theorem blk2 (c : Dev nD) (t : Fin cfg2.N) (a b : Fin 768) : iblk2 V c 2 t (ix2 a b) = V c main_arg9 (ix2 a b) := by
  blk_ext [iblk2, (idx t).2.2.1]

theorem blk3 (c : Dev nD) (t : Fin cfg2.N) (a b : Fin 768) : iblk2 V c 3 t (ix2 a b) = V c main_arg10 (ix2 a b) := by
  blk_ext [iblk2, (idx t).2.2.2.1]

/-- What the body leaves at point `t`, at an entry. -/
theorem left (c : Dev nD) (t : Fin cfg2.N) (k : Fin 1024) (j : Fin 768) :
    (dat2 V c).after 4 t (ix2 k j)
      = out (V c main_v27) (V c main_v5) (V c main_arg9) (V c main_arg10)
          ⟨t.val * 1024 + k.val, by have := pt_lt t; omega⟩ j := by
  rw [after2_4]
  frame_out
  rw [projO, blk1]
  simp only [blk0, blk2, blk3]
  rfl

/-- Where the written block's entries lie in the result array. -/
theorem emb0 (t : Fin cfg2.N) (y : ((cfg2.win 4).xblock (cfg2.grid.coords t)).Idx) :
    (((win2_4.blk t).view.emb y) 0).val = t.val * 1024 + (y 0).val := by
  have e : win2_4.index t 0 = t.val := congrFun (idx t).2.2.2.2 0
  blk_simp
  rw [e]

theorem emb1 (t : Fin cfg2.N) (y : ((cfg2.win 4).xblock (cfg2.grid.coords t)).Idx) :
    (((win2_4.blk t).view.emb y) 1).val = (y 1).val := by
  have e : win2_4.index t 1 = 0 := congrFun (idx t).2.2.2.2 1
  blk_simp
  rw [e, Nat.zero_mul, Nat.zero_add]

theorem covers : (cfg2.win 4).Covers := by decide +kernel

/-- The output projection's result array. -/
theorem arr (c : Dev nD) : (dat2 V c).arrAt 4 cfg2.N
      = fun i : S2048x768.Idx => out (V c main_v27) (V c main_v5) (V c main_arg9) (V c main_arg10) (i 0) (i 1) := by
  refine (dat2 V c).arrAt_eq_of_covers 4 _ covers fun t hf y => ?_
  blk_simp
  obtain ⟨a, b, hy⟩ : ∃ (a : Fin 1024) (b : Fin 768), y = ix2 a b := ⟨y 0, y 1, eq_ix2 y⟩
  have e0 : (win2_4.blk t).view.emb y 0 = (⟨t.val * 1024 + a.val, by have := pt_lt t; omega⟩ : Fin 2048) :=
    Fin.ext ((emb0 t y).trans (by rw [hy]; rfl))
  have e1 : (win2_4.blk t).view.emb y 1 = b := Fin.ext ((emb1 t y).trans (by rw [hy]; rfl))
  rw [e0, e1, hy]
  exact left V c t a b

end Cert.KernelIdeal.Oproj
-- ==== Proof.Host.lean ====
module

public import proofs.«01_k».proof.Proof.Gen.KernelIdeal.Frame
public import proofs.«01_k».proof.Proof.Pay
public import Idealize.ShloMosaic.Lib.Pipeline.ValueKit

/-! # What the lines before the first launch leave in the arrays the three regions read -/

@[expose] public section

set_option maxRecDepth 16384

noncomputable section

namespace Cert.KernelIdeal.Host

open Cert.KernelIdeal.Gen Cert.KernelIdeal.Pay Cert.Math
open Idealize.ShloMosaic Idealize.ShloMosaic.TcCoe Idealize.ShloMosaic.Tactic

/-- The float of a test for zero is `1` where the integer is zero and `0` elsewhere. -/
theorem mask_val (w : BitVec 32) :
    (FloatOps.uitofp (F := Ideal) .f32 (IntOp.cmpi .eq w 0#32) : EReal) = if w = 0#32 then (1 : EReal) else 0 := by
  by_cases h : w = 0#32 <;> simp [IntOp.cmpi, h, FloatOps.uitofp]

theorem side_cases (a : Fin 64) : (a.val % 2 < 1 ∧ sd a = 0) ∨ (¬ a.val % 2 < 1 ∧ sd a = 1) := by
  revert a; decide

/-- Interleaving the two diagonals of the rotation table: row `a` of the first table. -/
theorem pick_same (x : S2048x32x2x2.Idx → EReal) (a : Fin 64) (t : Fin 2048) :
    (if _h : a.val % 2 < 1 then x (ix4 t (pr a) 0 0) else x (ix4 t (pr a) 1 1)) = x (ix4 t (pr a) (sd a) (sd a)) := by
  rcases side_cases a with ⟨h, e⟩ | ⟨h, e⟩
  · rw [dif_pos h, e]
  · rw [dif_neg h, e]

/-- Interleaving the two off-diagonals: row `a` of the second table. -/
theorem pick_other (x : S2048x32x2x2.Idx → EReal) (a : Fin 64) (t : Fin 2048) :
    (if _h : a.val % 2 < 1 then x (ix4 t (pr a) 0 1) else x (ix4 t (pr a) 1 0)) = x (ix4 t (pr a) (sd a) (co (sd a))) := by
  rcases side_cases a with ⟨h, e⟩ | ⟨h, e⟩
  · rw [dif_pos h, e]; rfl
  · rw [dif_neg h, e]; rfl

variable (m : (ℓ : Loc nD τ sig) → Buf (Elt Ideal) ℓ) (ρ : Dev nD → PrngReg)

theorem x_at (c : Dev nD) (t : Fin 2048) (d : Fin 768) :
    V1 m ρ c main_v0 (ix2 t d) = m ((c.tc : Thread nD τ).loc main_arg0) (ix3 0 t d) := by
  unfold_abbrev_sides
  after_results
  pointwise
  try rfl

theorem mask_row (c : Dev nD) (t : Fin 2048) :
    V1 m ρ c main_v7 (ix2 0 t) = (if m ((c.tc : Thread nD τ).loc main_arg2) (ix2 0 t) = 0#32 then (1 : EReal) else 0) := by
  unfold_abbrev_sides
  after_results
  pointwise
  exact mask_val _

theorem mask_col (c : Dev nD) (t : Fin 2048) :
    V1 m ρ c main_v5 (ix2 t 0) = (if m ((c.tc : Thread nD τ).loc main_arg2) (ix2 0 t) = 0#32 then (1 : EReal) else 0) := by
  unfold_abbrev_sides
  after_results
  pointwise
  exact mask_val _

theorem ca_at (c : Dev nD) (a : Fin 64) (t : Fin 2048) :
    V1 m ρ c main_v16 (ix2 a t) = m ((c.tc : Thread nD τ).loc main_arg1) (ix4 t (pr a) (sd a) (sd a)) := by
  unfold_abbrev_sides
  after_results
  pointwise
  exact pick_same _ a t

theorem cb_at (c : Dev nD) (a : Fin 64) (t : Fin 2048) :
    V1 m ρ c main_v25 (ix2 a t) = m ((c.tc : Thread nD τ).loc main_arg1) (ix4 t (pr a) (sd a) (co (sd a))) := by
  unfold_abbrev_sides
  after_results
  pointwise
  exact pick_other _ a t

theorem cst_at (c : Dev nD) :
    (V1 m ρ c main_cst : S64x64.Idx → EReal) = fun i => Ideal.ofBits .bf16 (lit0 (S64x64.rowMajor i)) := by
  unfold_abbrev_sides
  after_results
  try rfl

end Cert.KernelIdeal.Host
-- ==== Proof.Swap.lean ====
module

public import proofs.«01_k».proof.KernelIdeal
public import proofs.«01_k».proof.Proof.Pay

/-! # The permutation table: it swaps the two members of every pair -/

@[expose] public section

set_option maxRecDepth 16384

noncomputable section

namespace Cert.KernelIdeal.Swap

open Cert.KernelIdeal.Pay Cert.Math
open Idealize.ShloMosaic Idealize.ShloMosaic.Tactic

/-- The flat position of row `i`, column `k`. -/
def flat (i k : Fin 64) : Fin 4096 := ⟨64 * i.val + k.val, by omega⟩

/-- Read as a flat list, the table holds a one at row `i`, column `i` with its last bit flipped. -/
theorem bits : ∀ i k : Fin 64, lit0 (flat i k) = if k = sw i then 0x3F80#16 else 0#16 := by
  decide +kernel

/-- The table is the swap of pairs. -/
theorem swap : IsSwap (fun i : S64x64.Idx => Ideal.ofBits .bf16 (lit0 (S64x64.rowMajor i))) := by
  intro i k
  have e : S64x64.rowMajor (ix2 i k) = flat i k := Fin.ext (by
    rw [Shape.rowMajor_val_two]
    show i.val * 64 + k.val = 64 * i.val + k.val
    omega)
  show Ideal.ofBits .bf16 (lit0 (S64x64.rowMajor (ix2 i k) : Fin 4096)) = _
  rw [show lit0 (S64x64.rowMajor (ix2 i k) : Fin 4096) = lit0 (flat i k) from congrArg lit0 e, bits]
  split
  · exact Ideal.ofBits_one_bf16
  · exact Ideal.ofBits_zero_bf16

end Cert.KernelIdeal.Swap
-- ==== Proof.Total.lean ====
module

public import proofs.«01_k».proof.Proof.Gen.KernelIdeal.Frame
public import proofs.«01_k».proof.Proof.Qkv
public import proofs.«01_k».proof.Proof.Attn
public import proofs.«01_k».proof.Proof.Oproj
public import proofs.«01_k».proof.Proof.Host
public import proofs.«01_k».proof.Proof.Swap

/-! # The kernel's result from its arguments: the three regions chained -/

@[expose] public section

set_option maxRecDepth 16384

noncomputable section

namespace Cert.KernelIdeal.Total

open Cert.KernelIdeal.Gen Cert.KernelIdeal.Pay Cert.Math
open Idealize.ShloMosaic Idealize.ShloMosaic.TcCoe Idealize.ShloMosaic.Tactic

variable (m : (ℓ : Loc nD τ sig) → Buf (Elt Ideal) ℓ) (ρ : Dev nD → PrngReg)

/-- The projections the attention reads. -/
theorem qkv_arr (c : Dev nD) : V2 m ρ c main_v26 = fun i : S1280x2048.Idx => Qkv.res (V1 m ρ) c (i 0) (i 1) :=
  (W2_arr m ρ c 8).trans (Qkv.arr (V1 m ρ) c)

theorem ca_arr (c : Dev nD) : V2 m ρ c main_v16 = V1 m ρ c main_v16 := W2_of m ρ c main_v16 (by decide +kernel)

theorem cb_arr (c : Dev nD) : V2 m ρ c main_v25 = V1 m ρ c main_v25 := W2_of m ρ c main_v25 (by decide +kernel)

theorem cst_arr (c : Dev nD) : IsSwap (V2 m ρ c main_cst) := by
  rw [show V2 m ρ c main_cst = V1 m ρ c main_cst from W2_of m ρ c main_cst (by decide +kernel), Host.cst_at m ρ c]
  exact Swap.swap

/-- The heads the last projection reads. -/
theorem heads_arr (c : Dev nD) : V3 m ρ c main_v27
    = fun i : S768x2048.Idx => Attn.out (V2 m ρ c main_v26) (V1 m ρ c main_v16) (V1 m ρ c main_v25) (i 0) (i 1) := by
  rw [← ca_arr, ← cb_arr]
  exact (W3_arr m ρ c 8).trans (Attn.arr (V2 m ρ) c (cst_arr m ρ c))

theorem mask_arr (c : Dev nD) : V3 m ρ c main_v5 = V1 m ρ c main_v5 :=
  (W3_of m ρ c main_v5 (by decide +kernel)).trans (W2_of m ρ c main_v5 (by decide +kernel))

/-- The last region's array, before the closing reshape. -/
theorem out_arr (c : Dev nD) : V4 m ρ c main_v28
    = fun i : S2048x768.Idx => Oproj.out (V3 m ρ c main_v27) (V1 m ρ c main_v5) (m ((c.tc : Thread nD τ).loc main_arg9))
        (m ((c.tc : Thread nD τ).loc main_arg10)) (i 0) (i 1) := by
  rw [← mask_arr, ← W3_args m ρ c main_arg9 (by decide), ← W3_args m ρ c main_arg10 (by decide)]
  exact (W4_arr m ρ c 4).trans (Oproj.arr (V3 m ρ) c)

/-- The result, at token `t` and channel `j`. -/
theorem res_at (c : Dev nD) (t : Fin 2048) (j : Fin 768) :
    (W5 m ρ c (Proc.devRef .tc main_v29) : S1x2048x768.Idx → EReal) (ix3 0 t j)
      = Oproj.out (V3 m ρ c main_v27) (V1 m ρ c main_v5) (m ((c.tc : Thread nD τ).loc main_arg9))
        (m ((c.tc : Thread nD τ).loc main_arg10)) t j := by
  have e : (W5 m ρ c (Proc.devRef .tc main_v29) : S1x2048x768.Idx → EReal) (ix3 0 t j) = V4 m ρ c main_v28 (ix2 t j) := by
    unfold_abbrev_sides
    after_results
    pointwise
    try rfl
  rw [e, out_arr]
  rfl

end Cert.KernelIdeal.Total
-- ==== Proof.Pre.lean ====
module

public import proofs.«01_k».proof.Proof.Gen.Pre_finite_scores_two_modalities
public import proofs.«01_k».proof.Defs
public import proofs.«01_k».proof.Proof.Math
public import Idealize.ShloMosaic.Lib.Pointwise
public import Idealize.ShloMosaic.Lib.IdealHost

/-! # What the precondition says of the arguments -/

@[expose] public section

set_option maxRecDepth 16384

noncomputable section

namespace Cert.KernelIdeal.Pre

open Cert.Math
open Idealize.ShloMosaic Idealize.ShloMosaic.TcCoe Idealize.ShloMosaic.Tactic

/-- The bound of every finiteness test. -/
theorem top_const : Ideal.ofBits .f32 0x7F800000#32 = ⊤ := by
  simp [Ideal.ofBits, Ideal.ieee]

/-- A value whose absolute value is below the bound is a real number. -/
theorem real_of_lt {x : EReal} (h : max x (-x) < ⊤) : Real' x := by
  induction x using EReal.rec with
  | bot => simp at h
  | top => simp at h
  | coe r => exact ⟨r, rfl⟩

/-- An array that passes the finiteness test everywhere holds real numbers. -/
theorem real_of_test {S T : Shape} (a : FVec Ideal S .f32) (dims : Fin T.rank → Fin S.rank) (hb : T.BroadcastsInDim S dims)
    (h : cmpf .olt (Host.absf a) (broadcastInDim S dims hb (constant T .f32 0x7F800000#32)) = fun _ => 1#1) (i : S.Idx) :
    Real' (a i : EReal) := by
  have e := congrFun h i
  change Ideal.cmp .olt (max (a i : EReal) (-(a i : EReal))) (Ideal.ofBits .f32 0x7F800000#32) = 1#1 at e
  rw [top_const] at e
  apply real_of_lt
  by_contra hn
  simp [Ideal.cmp, hn] at e

/-- An array that passes the test of two values everywhere holds one of them. -/
theorem two_of_test {S T : Shape} (a : IVec S 32) (dims : Fin T.rank → Fin S.rank) (hb hb' : T.BroadcastsInDim S dims)
    (h : ori (cmpi .eq a (broadcastInDim S dims hb (constantI T 32 0#32)))
      (cmpi .eq a (broadcastInDim S dims hb' (constantI T 32 1#32))) = fun _ => 1#1) (i : S.Idx) :
    a i = 0#32 ∨ a i = 1#32 := by
  have e := congrFun h i
  change IntOp.cmpi .eq (a i) 0#32 ||| IntOp.cmpi .eq (a i) 1#32 = 1#1 at e
  by_contra hn
  rw [not_or] at hn
  have z : IntOp.cmpi .eq (a i) 0#32 ||| IntOp.cmpi .eq (a i) 1#32 = 0#1 := by
    simp [IntOp.cmpi, beq_eq_false_iff_ne.mpr hn.1, beq_eq_false_iff_ne.mpr hn.2]
  rw [z] at e
  exact absurd e (by decide)

variable (m : (ℓ : Loc nD τ sig) → Buf (Elt Ideal) ℓ)

/-- What the rest uses of the arguments on device `c`. -/
structure Good (c : Dev nD) : Prop where
  x : ∀ i : S1x2048x768.Idx, Real' (m ((c.tc : Thread nD τ).loc main_arg0) i)
  freq : ∀ i : S2048x32x2x2.Idx, Real' (m ((c.tc : Thread nD τ).loc main_arg1) i)
  ids : ∀ i : S1x2048.Idx, m ((c.tc : Thread nD τ).loc main_arg2) i = 0#32 ∨ m ((c.tc : Thread nD τ).loc main_arg2) i = 1#32
  wqt : ∀ i : S768x768.Idx, Real' (m ((c.tc : Thread nD τ).loc main_arg3) i)
  wqi : ∀ i : S768x768.Idx, Real' (m ((c.tc : Thread nD τ).loc main_arg4) i)
  wkt : ∀ i : S256x768.Idx, Real' (m ((c.tc : Thread nD τ).loc main_arg5) i)
  wki : ∀ i : S256x768.Idx, Real' (m ((c.tc : Thread nD τ).loc main_arg6) i)

theorem good (h : Cert.Pre_KernelIdeal_finite_scores_two_modalities m) (c : Dev nD) : Good m c := by
  obtain ⟨h0, h1, h2, h3, h4, h5, h6⟩ := h c
  exact ⟨real_of_test _ _ _ h0, real_of_test _ _ _ h1, two_of_test _ _ _ _ h2, real_of_test _ _ _ h3,
    real_of_test _ _ _ h4, real_of_test _ _ _ h5, real_of_test _ _ _ h6⟩

end Cert.KernelIdeal.Pre
-- ==== Proof.RefProj.lean ====
module

public import proofs.«01_k».proof.Proof.Gen.ReferenceIdeal.Read
public import proofs.«01_k».proof.Proof.Math
public import Idealize.ShloMosaic.Lib.Pointwise
public import Idealize.ShloMosaic.Lib.IdealHost

/-! # The reference's masked projections, entry by entry -/

@[expose] public section

set_option maxRecDepth 16384

noncomputable section

namespace Cert.ReferenceIdeal.Entry

open Cert.Math Cert.ReferenceIdeal Cert.ReferenceIdeal.Read
open Idealize.ShloMosaic Idealize.ShloMosaic.TcCoe Idealize.ShloMosaic.Tactic

abbrev X := (⟨S1x2048x768, .f32⟩ : BufTy).Contents (Elt Ideal)
abbrev Freq := (⟨S2048x32x2x2, .f32⟩ : BufTy).Contents (Elt Ideal)
abbrev Ids := (⟨S1x2048, .i32⟩ : BufTy).Contents (Elt Ideal)
abbrev Wide := (⟨S768x768, .f32⟩ : BufTy).Contents (Elt Ideal)
abbrev Narrow := (⟨S256x768, .f32⟩ : BufTy).Contents (Elt Ideal)

/-- The reference's choice between two modalities: each value times the indicator of its modality, added up. -/
def mix (w : BitVec 32) (a b : EReal) : EReal :=
  FloatOps.uitofp (F := Ideal) .f32 (IntOp.cmpi .eq w 0#32) * a + FloatOps.uitofp (F := Ideal) .f32 (IntOp.cmpi .eq w 1#32) * b

theorem mix_text (a b : EReal) : mix 0#32 a b = a := by
  simp [mix, IntOp.cmpi, FloatOps.uitofp]

theorem mix_image (a b : EReal) : mix 1#32 a b = b := by
  simp [mix, IntOp.cmpi, FloatOps.uitofp]

variable (x0 : X) (x1 : Freq) (x2 : Ids) (x3 x4 : Wide) (x5 x6 x7 x8 : Narrow) (x9 x10 : Wide)

/-- The query projection. -/
theorem q_at (t : Fin 2048) (r : Fin 768) :
    val_main_v30 (F := Ideal) x0 x2 x3 x4 (ix3 0 t r)
      = mix (x2 (ix2 0 t)) (∑ d, x0 (ix3 0 t d) * x3 (ix2 r d)) (∑ d, x0 (ix3 0 t d) * x4 (ix2 r d)) := by
  pointwise [val_main_v30, val_main_v0, val_main_cst, val_main_v1, val_main_v2, val_main_v3, val_main_v4, val_main_v5, val_main_v6, val_main_v7, val_main_v8, val_main_v9, val_main_v10, val_main_v11, val_main_v22, val_main_v23, val_main_v24, val_main_v25, val_main_v26, val_main_v27, val_main_v28, val_main_v29, val_main_c, val_main_c_2]
  try rfl

/-- The key projection. -/
theorem k_at (t : Fin 2048) (r : Fin 256) :
    val_main_v35 (F := Ideal) x0 x2 x5 x6 (ix3 0 t r)
      = mix (x2 (ix2 0 t)) (∑ d, x0 (ix3 0 t d) * x5 (ix2 r d)) (∑ d, x0 (ix3 0 t d) * x6 (ix2 r d)) := by
  pointwise [val_main_v35, val_main_v1, val_main_cst_0, val_main_v3, val_main_v4, val_main_v5, val_main_v6, val_main_v12, val_main_v13, val_main_v14, val_main_v15, val_main_v16, val_main_v22, val_main_v23, val_main_v24, val_main_v25, val_main_v31, val_main_v32, val_main_v33, val_main_v34, val_main_c, val_main_c_2]
  try rfl

/-- The value projection. -/
theorem v_at (t : Fin 2048) (r : Fin 256) :
    val_main_v40 (F := Ideal) x0 x2 x7 x8 (ix3 0 t r)
      = mix (x2 (ix2 0 t)) (∑ d, x0 (ix3 0 t d) * x7 (ix2 r d)) (∑ d, x0 (ix3 0 t d) * x8 (ix2 r d)) := by
  pointwise [val_main_v40, val_main_v2, val_main_cst_1, val_main_v3, val_main_v4, val_main_v5, val_main_v6, val_main_v17, val_main_v18, val_main_v19, val_main_v20, val_main_v21, val_main_v22, val_main_v23, val_main_v24, val_main_v25, val_main_v36, val_main_v37, val_main_v38, val_main_v39, val_main_c, val_main_c_2]
  try rfl

end Cert.ReferenceIdeal.Entry
-- ==== Proof.RefRot.lean ====
module

public import proofs.«01_k».proof.Proof.Gen.ReferenceIdeal.Read
public import proofs.«01_k».proof.Proof.RefProj
public import Idealize.ShloMosaic.Lib.Pointwise
public import Idealize.ShloMosaic.Lib.IdealHost

/-! # The reference's rotation of the pairs -/

@[expose] public section

set_option maxRecDepth 16384

noncomputable section

namespace Cert.ReferenceIdeal.Entry

open Cert.Math Cert.ReferenceIdeal Cert.ReferenceIdeal.Read
open Idealize.ShloMosaic Idealize.ShloMosaic.TcCoe Idealize.ShloMosaic.Tactic

variable (x0 : X) (x1 : Freq) (x2 : Ids) (x3 x4 : Wide) (x5 x6 x7 x8 : Narrow) (x9 x10 : Wide)

/-- The rotated query: one product of an entry with a coefficient. -/
theorem rq_prod (t : Fin 2048) (h : Fin 12) (j : Fin 32) (u b : Fin 2) :
    val_main_v48 (F := Ideal) x0 x1 x2 x3 x4 (ix6 0 t h j u b)
      = val_main_v30 (F := Ideal) x0 x2 x3 x4 (ix3 0 t ⟨h.val * 64 + (at2 j b).val, by omega⟩) * x1 (ix4 t j u b) := by
  unfold val_main_v48 val_main_v46 val_main_v44 val_main_v41
  generalize val_main_v30 (F := Ideal) x0 x2 x3 x4 = y
  pointwise [val_main_v47, val_main_v45]
  rw [show (⟨h.val * 64 + j.val * 2 + b.val, by omega⟩ : Fin 768) = ⟨h.val * 64 + (at2 j b).val, by omega⟩ from
    Fin.ext (by show h.val * 64 + j.val * 2 + b.val = h.val * 64 + (2 * j.val + b.val); omega)]

/-- The rotated query. -/
theorem rq_at (t : Fin 2048) (h : Fin 12) (a : Fin 64) :
    val_main_v50 (F := Ideal) x0 x1 x2 x3 x4 (ix4 0 t h a)
      = rot (fun b => val_main_v30 (F := Ideal) x0 x2 x3 x4 (ix3 0 t ⟨h.val * 64 + b.val, by omega⟩))
          (fun j u b => x1 (ix4 t j u b)) a := by
  have e : val_main_v50 (F := Ideal) x0 x1 x2 x3 x4 (ix4 0 t h a)
      = val_main_v49 (F := Ideal) x0 x1 x2 x3 x4 (ix5 0 t h (pr a) (sd a)) := by
    unfold val_main_v50
    generalize val_main_v49 (F := Ideal) x0 x1 x2 x3 x4 = y
    pointwise
    try rfl
  rw [e, val_main_v49_apply]
  have z : val_main_cst_3 (F := Ideal) (Shape.Idx.first Gen.h_S_) = 0 := Ideal.ofBits_zero_f32
  rw [z, zero_add]
  refine Finset.sum_congr rfl fun b _ => ?_
  have i : idx_main_v49 (ix5 0 t h (pr a) (sd a)) b = ix6 0 t h (pr a) (sd a) b := by
    funext d
    fin_cases d <;> rfl
  rw [i, rq_prod]

/-- The rotated key: one product of an entry with a coefficient. -/
theorem rk_prod (t : Fin 2048) (h : Fin 4) (j : Fin 32) (u b : Fin 2) :
    val_main_v55 (F := Ideal) x0 x1 x2 x5 x6 (ix6 0 t h j u b)
      = val_main_v35 (F := Ideal) x0 x2 x5 x6 (ix3 0 t ⟨h.val * 64 + (at2 j b).val, by omega⟩) * x1 (ix4 t j u b) := by
  unfold val_main_v55 val_main_v53 val_main_v51 val_main_v42
  generalize val_main_v35 (F := Ideal) x0 x2 x5 x6 = y
  pointwise [val_main_v54, val_main_v52]
  rw [show (⟨h.val * 64 + j.val * 2 + b.val, by omega⟩ : Fin 256) = ⟨h.val * 64 + (at2 j b).val, by omega⟩ from
    Fin.ext (by show h.val * 64 + j.val * 2 + b.val = h.val * 64 + (2 * j.val + b.val); omega)]

/-- The rotated key. -/
theorem rk_at (t : Fin 2048) (h : Fin 4) (a : Fin 64) :
    val_main_v57 (F := Ideal) x0 x1 x2 x5 x6 (ix4 0 t h a)
      = rot (fun b => val_main_v35 (F := Ideal) x0 x2 x5 x6 (ix3 0 t ⟨h.val * 64 + b.val, by omega⟩))
          (fun j u b => x1 (ix4 t j u b)) a := by
  have e : val_main_v57 (F := Ideal) x0 x1 x2 x5 x6 (ix4 0 t h a)
      = val_main_v56 (F := Ideal) x0 x1 x2 x5 x6 (ix5 0 t h (pr a) (sd a)) := by
    unfold val_main_v57
    generalize val_main_v56 (F := Ideal) x0 x1 x2 x5 x6 = y
    pointwise
    try rfl
  rw [e, val_main_v56_apply]
  have z : val_main_cst_4 (F := Ideal) (Shape.Idx.first Gen.h_S_) = 0 := Ideal.ofBits_zero_f32
  rw [z, zero_add]
  refine Finset.sum_congr rfl fun b _ => ?_
  have i : idx_main_v56 (ix5 0 t h (pr a) (sd a)) b = ix6 0 t h (pr a) (sd a) b := by
    funext d
    fin_cases d <;> rfl
  rw [i, rk_prod]

end Cert.ReferenceIdeal.Entry
-- ==== Proof.RefAttn.lean ====
module

public import proofs.«01_k».proof.Proof.Gen.ReferenceIdeal.Read
public import proofs.«01_k».proof.Proof.RefProj
public import Idealize.ShloMosaic.Lib.Pointwise
public import Idealize.ShloMosaic.Lib.IdealHost

/-! # The reference's attention -/

@[expose] public section

set_option maxRecDepth 16384

noncomputable section

namespace Cert.ReferenceIdeal.Entry

open Cert.Math Cert.ReferenceIdeal Cert.ReferenceIdeal.Read
open Idealize.ShloMosaic Idealize.ShloMosaic.TcCoe Idealize.ShloMosaic.Tactic

variable (x0 : X) (x1 : Freq) (x2 : Ids) (x3 x4 : Wide) (x5 x6 x7 x8 : Narrow) (x9 x10 : Wide)

/-- One score: the inner product of a query row and a key row, divided by the norm. -/
def score (h : Fin 12) (t k : Fin 2048) : EReal :=
  Ideal.div (∑ i, val_main_v50 (F := Ideal) x0 x1 x2 x3 x4 (ix4 0 t h i)
      * val_main_v57 (F := Ideal) x0 x1 x2 x5 x6 (ix4 0 k ⟨h.val / 3, by omega⟩ i))
    (Ideal.sqrt ((64 : ℝ) : EReal))

/-- The constant under the root. -/
theorem norm_const : Ideal.ofBits .f32 0x42800000#32 = ((64 : ℝ) : EReal) := by
  simp [Ideal.ofBits, Ideal.ieee, -EReal.coe_mul]; norm_num

/-- The constant every maximum starts at. -/
theorem least_const : Ideal.ofBits .f32 0xFF800000#32 = ⊥ := by
  simp [Ideal.ofBits, Ideal.ieee]

theorem inner_at (h : Fin 12) (t k : Fin 2048) :
    val_main_v69 (F := Ideal) x0 x1 x2 x3 x4 x5 x6 (ix4 0 h t k)
      = ∑ i, val_main_v50 (F := Ideal) x0 x1 x2 x3 x4 (ix4 0 t h i)
        * val_main_v57 (F := Ideal) x0 x1 x2 x5 x6 (ix4 0 k ⟨h.val / 3, by omega⟩ i) := by
  unfold val_main_v69 val_main_v68 val_main_v67 val_main_v66 val_main_v65 val_main_v63 val_main_v62 val_main_v59 val_main_v58
  generalize val_main_v50 (F := Ideal) x0 x1 x2 x3 x4 = q
  generalize val_main_v57 (F := Ideal) x0 x1 x2 x5 x6 = k'
  pointwise
  try rfl

theorem score_at (h : Fin 12) (t k : Fin 2048) :
    val_main_v72 (F := Ideal) x0 x1 x2 x3 x4 x5 x6 (ix4 0 h t k) = score x0 x1 x2 x3 x4 x5 x6 h t k := by
  unfold val_main_v72
  unfold score
  rw [← inner_at, ← norm_const]
  generalize val_main_v69 (F := Ideal) x0 x1 x2 x3 x4 x5 x6 = y
  pointwise [val_main_v71, val_main_v70, val_main_cst_5]
  try rfl

/-- The maximum over a row of an array of scores, from minus infinity. -/
theorem row_max (y : FVec Ideal S1x12x2048x2048 .f32) (z : FVec Ideal S_ .f32) (hz : z (Shape.Idx.first Gen.h_S_) = (⊥ : EReal))
    (h : Fin 12) (t : Fin 2048) :
    (Host.reduce (FloatOps.maximumf (F := Ideal) (φ := .f32)) y z Gen.reducesTo_S1x12x2048x2048_S1x12x2048_d3 Gen.h_S_) (ix3 0 h t)
      = (Finset.univ : Finset (Fin 2048)).fold max (⊥ : EReal) fun k => y (ix4 0 h t k) := by
  have e : S1x12x2048x2048.Reduces [3] S1x12x2048 := by decide
  rw [Host.reduce_eq_fold_single (FloatOps.maximumf (F := Ideal) (φ := .f32)) y z _ e Gen.h_S_, hz]
  refine congrArg (fun g : Fin 2048 → EReal => (Finset.univ : Finset (Fin 2048)).fold max (⊥ : EReal) g) (funext fun k => ?_)
  refine congrArg y (funext fun a => ?_)
  match a with
  | ⟨0, _⟩ => rfl
  | ⟨1, _⟩ => rfl
  | ⟨2, _⟩ => rfl
  | ⟨3, _⟩ => rfl

/-- Every maximum starts at minus infinity once more. -/
theorem start_least (h : Fin 12) (t : Fin 2048) : val_main_v74 (F := Ideal) (ix3 0 h t) = (⊥ : EReal) := by
  rw [val_main_v74_apply, val_main_cst_7_apply]
  exact least_const

/-- What is subtracted in the exponents of a row. -/
theorem max_at (h : Fin 12) (t : Fin 2048) :
    val_main_v75 (F := Ideal) x0 x1 x2 x3 x4 x5 x6 (ix3 0 h t)
      = max ⊥ ((Finset.univ : Finset (Fin 2048)).fold max ⊥ (score x0 x1 x2 x3 x4 x5 x6 h t)) := by
  have e : val_main_v73 (F := Ideal) x0 x1 x2 x3 x4 x5 x6 (ix3 0 h t) = (Finset.univ : Finset (Fin 2048)).fold max ⊥ (score x0 x1 x2 x3 x4 x5 x6 h t) := by
    rw [← funext (score_at x0 x1 x2 x3 x4 x5 x6 h t)]
    exact row_max _ (val_main_cst_6 (F := Ideal)) least_const h t
  rw [val_main_v75_apply, e, start_least]
  generalize (Finset.univ : Finset (Fin 2048)).fold max ⊥ (score x0 x1 x2 x3 x4 x5 x6 h t) = a
  rfl

/-- The weight before it is divided. -/
theorem exp_at (h : Fin 12) (t k : Fin 2048) :
    val_main_v79 (F := Ideal) x0 x1 x2 x3 x4 x5 x6 (ix4 0 h t k)
      = Ideal.exp (score x0 x1 x2 x3 x4 x5 x6 h t k - max ⊥ ((Finset.univ : Finset (Fin 2048)).fold max ⊥ (score x0 x1 x2 x3 x4 x5 x6 h t))) := by
  rw [← max_at, ← score_at]
  unfold val_main_v79 val_main_v78 val_main_v77 val_main_v76
  generalize val_main_v75 (F := Ideal) x0 x1 x2 x3 x4 x5 x6 = z
  generalize val_main_v72 (F := Ideal) x0 x1 x2 x3 x4 x5 x6 = y
  pointwise

theorem weight_at (h : Fin 12) (t k : Fin 2048) :
    val_main_v83 (F := Ideal) x0 x1 x2 x3 x4 x5 x6 (ix4 0 h t k)
      = Ideal.div (val_main_v79 (F := Ideal) x0 x1 x2 x3 x4 x5 x6 (ix4 0 h t k))
          (0 + ∑ j, val_main_v79 (F := Ideal) x0 x1 x2 x3 x4 x5 x6 (ix4 0 h t j)) := by
  unfold val_main_v83 val_main_v82 val_main_v81 val_main_v80
  generalize val_main_v79 (F := Ideal) x0 x1 x2 x3 x4 x5 x6 = y
  pointwise [val_main_cst_8]
  try rfl

theorem value_at (h : Fin 12) (k : Fin 2048) (i : Fin 64) :
    val_main_v64 (F := Ideal) x0 x2 x7 x8 (ix4 0 h k i)
      = val_main_v40 (F := Ideal) x0 x2 x7 x8 (ix3 0 k ⟨h.val / 3 * 64 + i.val, by omega⟩) := by
  unfold val_main_v64 val_main_v61 val_main_v60 val_main_v43
  generalize val_main_v40 (F := Ideal) x0 x2 x7 x8 = y
  pointwise
  try rfl

theorem sum_at (t : Fin 2048) (r : Fin 768) :
    val_main_v89 (F := Ideal) x0 x1 x2 x3 x4 x5 x6 x7 x8 (ix3 0 t r)
      = ∑ k, val_main_v83 (F := Ideal) x0 x1 x2 x3 x4 x5 x6 (ix4 0 ⟨r.val / 64, by omega⟩ t k)
          * val_main_v64 (F := Ideal) x0 x2 x7 x8 (ix4 0 ⟨r.val / 64, by omega⟩ k ⟨r.val % 64, by omega⟩) := by
  unfold val_main_v89 val_main_v88 val_main_v87 val_main_v86 val_main_v85 val_main_v84
  generalize val_main_v83 (F := Ideal) x0 x1 x2 x3 x4 x5 x6 = y
  generalize val_main_v64 (F := Ideal) x0 x2 x7 x8 = z
  pointwise
  try rfl

/-- The attention of a head from its row of scores. -/
theorem attn_of {Q : Fin 64 → EReal} {K : Fin 2048 → Fin 64 → EReal} (V : Fin 2048 → EReal) {s : Fin 2048 → EReal}
    (hs : s = fun k => Ideal.div (∑ i, Q i * K k i) (Ideal.sqrt ((64 : ℝ) : EReal))) :
    ∑ k, Ideal.div (Ideal.exp (s k - max ⊥ ((Finset.univ : Finset (Fin 2048)).fold max ⊥ s)))
        (0 + ∑ j, Ideal.exp (s j - max ⊥ ((Finset.univ : Finset (Fin 2048)).fold max ⊥ s))) * V k = attn Q K V := by
  subst hs
  rfl

/-- The concatenated heads: every entry is the attention of its head. -/
theorem heads_at (t : Fin 2048) (r : Fin 768) :
    val_main_v89 (F := Ideal) x0 x1 x2 x3 x4 x5 x6 x7 x8 (ix3 0 t r)
      = attn (fun i => val_main_v50 (F := Ideal) x0 x1 x2 x3 x4 (ix4 0 t ⟨r.val / 64, by omega⟩ i))
          (fun k i => val_main_v57 (F := Ideal) x0 x1 x2 x5 x6 (ix4 0 k ⟨r.val / 64 / 3, by omega⟩ i))
          (fun k => val_main_v40 (F := Ideal) x0 x2 x7 x8 (ix3 0 k ⟨r.val / 64 / 3 * 64 + r.val % 64, by omega⟩)) := by
  rw [sum_at]
  simp only [weight_at, value_at, exp_at]
  exact attn_of _ rfl

end Cert.ReferenceIdeal.Entry
-- ==== Proof.RefOut.lean ====
module

public import proofs.«01_k».proof.Proof.Gen.ReferenceIdeal.Read
public import proofs.«01_k».proof.Proof.RefProj
public import Idealize.ShloMosaic.Lib.Pointwise
public import Idealize.ShloMosaic.Lib.IdealHost

/-! # The reference's last masked projection -/

@[expose] public section

set_option maxRecDepth 16384

noncomputable section

namespace Cert.ReferenceIdeal.Entry

open Cert.Math Cert.ReferenceIdeal Cert.ReferenceIdeal.Read
open Idealize.ShloMosaic Idealize.ShloMosaic.TcCoe Idealize.ShloMosaic.Tactic

variable (x0 : X) (x1 : Freq) (x2 : Ids) (x3 x4 : Wide) (x5 x6 x7 x8 : Narrow) (x9 x10 : Wide)

theorem text_at (t : Fin 2048) (j : Fin 768) :
    val_main_v96 (F := Ideal) x0 x1 x2 x3 x4 x5 x6 x7 x8 x9 (ix3 0 t j)
      = ∑ r, val_main_v89 (F := Ideal) x0 x1 x2 x3 x4 x5 x6 x7 x8 (ix3 0 t r) * x9 (ix2 j r) := by
  unfold val_main_v96
  generalize val_main_v89 (F := Ideal) x0 x1 x2 x3 x4 x5 x6 x7 x8 = y
  pointwise [val_main_v95]

theorem image_at (t : Fin 2048) (j : Fin 768) :
    val_main_v105 (F := Ideal) x0 x1 x2 x3 x4 x5 x6 x7 x8 x10 (ix3 0 t j)
      = ∑ r, val_main_v89 (F := Ideal) x0 x1 x2 x3 x4 x5 x6 x7 x8 (ix3 0 t r) * x10 (ix2 j r) := by
  unfold val_main_v105
  generalize val_main_v89 (F := Ideal) x0 x1 x2 x3 x4 x5 x6 x7 x8 = y
  pointwise [val_main_v104]

theorem text_mask (t : Fin 2048) (j : Fin 768) :
    val_main_v97 (F := Ideal) x2 (ix3 0 t j) = (FloatOps.uitofp (F := Ideal) .f32 (IntOp.cmpi .eq (x2 (ix2 0 t)) 0#32) : EReal) := by
  pointwise [val_main_v97, val_main_v94, val_main_v93, val_main_v92, val_main_v91, val_main_c_10]

theorem image_mask (t : Fin 2048) (j : Fin 768) :
    val_main_v106 (F := Ideal) x2 (ix3 0 t j) = (FloatOps.uitofp (F := Ideal) .f32 (IntOp.cmpi .eq (x2 (ix2 0 t)) 1#32) : EReal) := by
  pointwise [val_main_v106, val_main_v103, val_main_v102, val_main_v101, val_main_v100, val_main_c_11]

theorem start_zero (t : Fin 2048) (j : Fin 768) : val_main_v90 (F := Ideal) (ix3 0 t j) = (0 : EReal) := by
  rw [val_main_v90_apply]
  exact Ideal.ofBits_zero_f32

/-- The result from the concatenated heads. -/
theorem out_at (t : Fin 2048) (j : Fin 768) :
    val_main_v108 (F := Ideal) x0 x1 x2 x3 x4 x5 x6 x7 x8 x9 x10 (ix3 0 t j)
      = mix (x2 (ix2 0 t)) (∑ r, val_main_v89 (F := Ideal) x0 x1 x2 x3 x4 x5 x6 x7 x8 (ix3 0 t r) * x9 (ix2 j r))
          (∑ r, val_main_v89 (F := Ideal) x0 x1 x2 x3 x4 x5 x6 x7 x8 (ix3 0 t r) * x10 (ix2 j r)) := by
  rw [val_main_v108_apply, val_main_v99_apply, val_main_v98_apply, val_main_v107_apply, text_at, image_at, text_mask,
    image_mask, start_zero]
  unfold mix
  generalize (∑ r, val_main_v89 (F := Ideal) x0 x1 x2 x3 x4 x5 x6 x7 x8 (ix3 0 t r) * x9 (ix2 j r)) = a
  generalize (∑ r, val_main_v89 (F := Ideal) x0 x1 x2 x3 x4 x5 x6 x7 x8 (ix3 0 t r) * x10 (ix2 j r)) = b
  generalize FloatOps.uitofp (F := Ideal) .f32 (IntOp.cmpi .eq (x2 (ix2 0 t)) 0#32) = u
  generalize FloatOps.uitofp (F := Ideal) .f32 (IntOp.cmpi .eq (x2 (ix2 0 t)) 1#32) = v
  show ((0 : EReal) + (u : EReal) * a) + (v : EReal) * b = _
  rw [zero_add]

end Cert.ReferenceIdeal.Entry
-- ==== Proof.Eq.lean ====
module

public import proofs.«01_k».proof.Proof.Total
public import proofs.«01_k».proof.Proof.Pre
public import proofs.«01_k».proof.Proof.RefProj
public import proofs.«01_k».proof.Proof.RefRot
public import proofs.«01_k».proof.Proof.RefAttn
public import proofs.«01_k».proof.Proof.RefOut

/-! # The kernel's result is the reference's -/

@[expose] public section

set_option maxRecDepth 16384

noncomputable section

namespace Cert.KernelIdeal.Eq

open Cert.KernelIdeal.Gen Cert.KernelIdeal.Pay Cert.KernelIdeal.Pre Cert.Math
open Cert.ReferenceIdeal.Read Cert.ReferenceIdeal.Entry
open Idealize.ShloMosaic Idealize.ShloMosaic.TcCoe Idealize.ShloMosaic.Tactic

/-- A choice by the indicator of the first modality is the reference's sum of two masked values. -/
theorem pick_mix {w : BitVec 32} (hw : w = 0#32 ∨ w = 1#32) (a b : EReal) :
    pick (if w = 0#32 then (1 : EReal) else 0) a b = mix w a b := by
  unfold pick
  rcases hw with rfl | rfl
  · rw [mix_text, if_pos rfl, if_pos zero_lt_one]
  · rw [mix_image, if_neg (show ¬ (1#32 = 0#32) by decide), if_neg (lt_irrefl _)]

theorem mix_real {w : BitVec 32} (hw : w = 0#32 ∨ w = 1#32) {a b : EReal} (ha : Real' a) (hb : Real' b) :
    Real' (mix w a b) := by
  rcases hw with rfl | rfl
  · rwa [mix_text]
  · rwa [mix_image]

variable (m : (ℓ : Loc nD τ sig) → Buf (Elt Ideal) ℓ) (ρ : Dev nD → PrngReg) (c : Dev nD)

/-- The arguments on device `c`. -/
abbrev a0 : X := m ((c.tc : Thread nD τ).loc main_arg0)
abbrev a1 : Freq := m ((c.tc : Thread nD τ).loc main_arg1)
abbrev a2 : Ids := m ((c.tc : Thread nD τ).loc main_arg2)
abbrev a3 : Wide := m ((c.tc : Thread nD τ).loc main_arg3)
abbrev a4 : Wide := m ((c.tc : Thread nD τ).loc main_arg4)
abbrev a5 : Narrow := m ((c.tc : Thread nD τ).loc main_arg5)
abbrev a6 : Narrow := m ((c.tc : Thread nD τ).loc main_arg6)
abbrev a7 : Narrow := m ((c.tc : Thread nD τ).loc main_arg7)
abbrev a8 : Narrow := m ((c.tc : Thread nD τ).loc main_arg8)
abbrev a9 : Wide := m ((c.tc : Thread nD τ).loc main_arg9)
abbrev a10 : Wide := m ((c.tc : Thread nD τ).loc main_arg10)

/-- The reference's query, key and value projections. -/
abbrev q := val_main_v30 (F := Ideal) (a0 m c) (a2 m c) (a3 m c) (a4 m c)
abbrev k := val_main_v35 (F := Ideal) (a0 m c) (a2 m c) (a5 m c) (a6 m c)
abbrev v := val_main_v40 (F := Ideal) (a0 m c) (a2 m c) (a7 m c) (a8 m c)

variable {m c}

/-- One masked projection of the kernel, as the reference's. -/
theorem proj_mix (g : Good m c) {n : ℕ} (wt wi : (⟨2, ![n, 768]⟩ : Shape).Idx → EReal) (r : Fin n) (t : Fin 2048) :
    Qkv.proj (V1 m ρ c main_v0) (V1 m ρ c main_v7) wt wi r t
      = mix (a2 m c (ix2 0 t)) (∑ d, a0 m c (ix3 0 t d) * wt (ix2 r d)) (∑ d, a0 m c (ix3 0 t d) * wi (ix2 r d)) := by
  unfold Qkv.proj
  rw [Host.mask_row, pick_mix (g.ids _)]
  exact congrArg₂ (mix _) (Finset.sum_congr rfl fun d _ => (mul_comm _ _).trans (congrArg (· * _) (Host.x_at m ρ c t d)))
    (Finset.sum_congr rfl fun d _ => (mul_comm _ _).trans (congrArg (· * _) (Host.x_at m ρ c t d)))

theorem y_at (r : Fin 1280) (t : Fin 2048) :
    V2 m ρ c main_v26 (ix2 r t) = Qkv.out (V1 m ρ c main_v0) (V1 m ρ c main_v7) (a3 m c) (a4 m c) (a5 m c) (a6 m c)
      (a7 m c) (a8 m c) r t := by
  rw [Total.qkv_arr]
  show Qkv.res (V1 m ρ) c r t = _
  rw [Qkv.res, show V1 m ρ c main_arg3 = a3 m c from W1_args m ρ c main_arg3 (by decide),
    show V1 m ρ c main_arg4 = a4 m c from W1_args m ρ c main_arg4 (by decide),
    show V1 m ρ c main_arg5 = a5 m c from W1_args m ρ c main_arg5 (by decide),
    show V1 m ρ c main_arg6 = a6 m c from W1_args m ρ c main_arg6 (by decide),
    show V1 m ρ c main_arg7 = a7 m c from W1_args m ρ c main_arg7 (by decide),
    show V1 m ρ c main_arg8 = a8 m c from W1_args m ρ c main_arg8 (by decide)]

/-- Rows `0 … 767` of the stacked projections are the reference's queries. -/
theorem y_q (g : Good m c) (r : Fin 768) (t : Fin 2048) : V2 m ρ c main_v26 (ix2 ⟨r.val, by omega⟩ t) = q m c (ix3 0 t r) := by
  rw [y_at, Qkv.out_q, proj_mix ρ g]
  exact (q_at _ _ _ _ t r).symm

/-- The next 256 rows are the keys. -/
theorem y_k (g : Good m c) (r : Fin 256) (t : Fin 2048) :
    V2 m ρ c main_v26 (ix2 ⟨768 + r.val, by omega⟩ t) = k m c (ix3 0 t r) := by
  rw [y_at, Qkv.out_k, proj_mix ρ g]
  exact (k_at _ _ _ _ t r).symm

/-- The last 256 rows are the values. -/
theorem y_v (g : Good m c) (r : Fin 256) (t : Fin 2048) :
    V2 m ρ c main_v26 (ix2 ⟨1024 + r.val, by omega⟩ t) = v m c (ix3 0 t r) := by
  rw [y_at, Qkv.out_v, proj_mix ρ g]
  exact (v_at _ _ _ _ t r).symm

theorem q_real (g : Good m c) (r : Fin 768) (t : Fin 2048) : Real' (q m c (ix3 0 t r)) := by
  rw [q, q_at]
  exact mix_real (g.ids _) (Real'.sum _ fun d => (g.x _).mul (g.wqt _)) (Real'.sum _ fun d => (g.x _).mul (g.wqi _))

theorem k_real (g : Good m c) (r : Fin 256) (t : Fin 2048) : Real' (k m c (ix3 0 t r)) := by
  rw [k, k_at]
  exact mix_real (g.ids _) (Real'.sum _ fun d => (g.x _).mul (g.wkt _)) (Real'.sum _ fun d => (g.x _).mul (g.wki _))

/-- The named scale is `1/(8·log 2)`. -/
theorem qs_val : qs = (((8 * Real.log 2)⁻¹ : ℝ) : EReal) :=
  IdealRules.named_const.ideal_named_scalar _ _ _ _ rfl

/-- The rotation coefficients of token `t`. -/
abbrev fr (m : (ℓ : Loc nD τ sig) → Buf (Elt Ideal) ℓ) (c : Dev nD) (t : Fin 2048) (j : Fin 32) (u b : Fin 2) : EReal :=
  a1 m c (ix4 t j u b)

/-- The kernel's rotated query row is the reference's, scaled. -/
theorem q_row (g : Good m c) (h : Fin 12) (t : Fin 2048) (i : Fin 64) :
    Attn.qAt (V2 m ρ c main_v26) (V1 m ρ c main_v16) (V1 m ρ c main_v25) h t i
      = val_main_v50 (F := Ideal) (a0 m c) (a1 m c) (a2 m c) (a3 m c) (a4 m c) (ix4 0 t h i)
        * (((8 * Real.log 2)⁻¹ : ℝ) : EReal) := by
  rw [rq_at, ← rotSw_scale (fun b => q_real g _ t) (fun j u b => g.freq _)]
  unfold Attn.qAt rotSw
  rw [qs_val, Host.ca_at, Host.cb_at, y_q ρ g ⟨h.val * 64 + i.val, by omega⟩, y_q ρ g ⟨h.val * 64 + (sw i).val, by omega⟩]

/-- The kernel's rotated key row is the reference's. -/
theorem k_row (g : Good m c) (h : Fin 12) (t : Fin 2048) (i : Fin 64) :
    Attn.kAt (V2 m ρ c main_v26) (V1 m ρ c main_v16) (V1 m ρ c main_v25) h t i
      = val_main_v57 (F := Ideal) (a0 m c) (a1 m c) (a2 m c) (a5 m c) (a6 m c) (ix4 0 t ⟨h.val / 3, by omega⟩ i) := by
  have e : ∀ b : Fin 64, V2 m ρ c main_v26 (ix2 (⟨(12 + h.val / 3) * 64 + b.val, by omega⟩ : Fin 1280) t)
      = k m c (ix3 0 t ⟨h.val / 3 * 64 + b.val, by omega⟩) := fun b => by
    rw [← y_k ρ g]
    exact congrArg (fun r : Fin 1280 => V2 m ρ c main_v26 (ix2 r t)) (Fin.ext (by
      show (12 + h.val / 3) * 64 + b.val = 768 + (h.val / 3 * 64 + b.val)
      omega))
  rw [rk_at, ← rotSw_id]
  unfold Attn.kAt rotSw
  rw [Host.ca_at, Host.cb_at, e, e]

/-- The kernel's value column is the reference's. -/
theorem v_col (g : Good m c) (h : Fin 12) (r : Fin 64) (t : Fin 2048) :
    Attn.vAt (V2 m ρ c main_v26) h r t = v m c (ix3 0 t ⟨h.val / 3 * 64 + r.val, by omega⟩) := by
  rw [← y_v ρ g]
  exact congrArg (fun r : Fin 1280 => V2 m ρ c main_v26 (ix2 r t)) (Fin.ext (by
    show (16 + h.val / 3) * 64 + r.val = 1024 + (h.val / 3 * 64 + r.val)
    omega))

/-- The reference's concatenated heads. -/
abbrev heads (m : (ℓ : Loc nD τ sig) → Buf (Elt Ideal) ℓ) (c : Dev nD) :=
  val_main_v89 (F := Ideal) (a0 m c) (a1 m c) (a2 m c) (a3 m c) (a4 m c) (a5 m c) (a6 m c) (a7 m c) (a8 m c)

/-- Every entry of the attention region is the reference's. -/
theorem heads_eq (g : Good m c) (r : Fin 768) (t : Fin 2048) :
    V3 m ρ c main_v27 (ix2 r t) = heads m c (ix3 0 t r) := by
  rw [Total.heads_arr]
  show Attn.out (V2 m ρ c main_v26) (V1 m ρ c main_v16) (V1 m ρ c main_v25) r t = _
  rw [heads, heads_at, Attn.out, show Attn.vAt (V2 m ρ c main_v26) ⟨r.val / 64, by omega⟩ ⟨r.val % 64, by omega⟩ = _ from
      funext fun k => v_col ρ g _ _ k,
    show Attn.kAt (V2 m ρ c main_v26) (V1 m ρ c main_v16) (V1 m ρ c main_v25) ⟨r.val / 64, by omega⟩ = _ from
      funext fun k => funext fun i => k_row ρ g _ k i]
  refine attn2_eq _ (fun i => ?_) (fun k i => ?_) (fun i => q_row ρ g _ t i)
  · rw [rq_at]
    exact rot_real (fun b => q_real g _ t) (fun j u b => g.freq _) i
  · rw [rk_at]
    exact rot_real (fun b => k_real g _ k) (fun j u b => g.freq _) i

/-- The kernel's result array is the reference's. -/
theorem result (g : Good m c) :
    W5 m ρ c (Proc.devRef .tc main_v29)
      = val_main_v108 (F := Ideal) (a0 m c) (a1 m c) (a2 m c) (a3 m c) (a4 m c) (a5 m c) (a6 m c) (a7 m c) (a8 m c)
          (a9 m c) (a10 m c) := by
  funext i
  obtain ⟨t, j, e⟩ : ∃ (t : Fin 2048) (j : Fin 768), i = (ix3 0 t j : S1x2048x768.Idx) :=
    ⟨i 1, i 2, by funext a; match a with
      | ⟨0, _⟩ => exact Subsingleton.elim (α := Fin 1) _ _
      | ⟨1, _⟩ => rfl
      | ⟨2, _⟩ => rfl⟩
  rw [e]
  refine (Total.res_at m ρ c t j).trans ?_
  rw [out_at]
  unfold Oproj.out
  rw [Host.mask_col, pick_mix (g.ids _)]
  exact congrArg₂ (mix _) (Finset.sum_congr rfl fun r _ => congrArg (· * _) (heads_eq ρ g r t))
    (Finset.sum_congr rfl fun r _ => congrArg (· * _) (heads_eq ρ g r t))

end Cert.KernelIdeal.Eq
-- ==== Proof.Run.lean ====
module

public import proofs.«01_k».proof.Proof.Gen.KernelIdeal.Frame

/-! # The kernel's run, with its result named

The generated frame proof carries the contents of every unscoped buffer to the end of @main and then keeps only the
arguments. The same launch is made here once more and the result buffer is kept as well. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run of the kernel ends with each unscoped buffer at the last boundary's contents. -/
theorem run_all : θ_run defs (onTc (τ := τ) (main (F := F))) ⟨m, fun _ => 0, ρ⟩ (fun r =>
    ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hbufs, Hrng, Howed⟩
      isplitl [Hbufs Hrng]
      · isplitl [Hbufs]; · iexact Hbufs
        iexact Hrng
      iexact Howed⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hrng, -⟩, -⟩
      imodintro
      isplitl [Hbufs]; · iexact Hbufs
      isplitl [Hrng]; · iexists _; iexact Hrng
      iexists ∅; iexact Howed)
    (QY := fun c s => ∀ b ∈ Pipeline.ucRefs τ sig, s.mem (((c : Thread nD τ)).1, b) = W5 m ρ c b)
    (hfin := fun c s' => by
      iintro ⟨⟨Hbufs, -⟩, Hmem⟩
      unfold StableHlo.held
      imodintro
      iapply (pointsTo_read_all (Pipeline.ucRefs τ sig) (fun b => (((c : Thread nD τ)).1, b)) (W5 m ρ c) s')
      isplitl [Hbufs] <;> iassumption)
    (hQ := fun _ h _ => h)

/-- Every weakly fair run of the kernel ends with its result at the last boundary's contents and its arguments as they
    were. -/
theorem run : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v29 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c)⟩)
    (run_all m ρ)

end Cert.KernelIdeal.Whole
-- ==== Proof.Alg.lean ====
module

public import proofs.«01_k».proof.Proof.Eq
public import proofs.«01_k».proof.Proof.Run
public import proofs.«01_k».proof.Proof.Gen.Kernel
public import proofs.«01_k».proof.Proof.Gen.ReferenceIdeal.Run
public import Idealize.ShloMosaic.Lib.Quiescent

/-! # The two claims that are not generated: equal results, and the named scale -/

@[expose] public section

set_option maxRecDepth 16384

noncomputable section

namespace Cert.Whole

open Idealize.ShloMosaic Idealize.ShloMosaic.TcCoe Idealize.SL.Sem

/-- The reference leaves its arguments as they were and every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference end with the same array wherever the scores are finite and every token has one of the two
    modalities. -/
theorem equal_results : Cert.algebraic_KernelIdeal_ReferenceIdeal_pre_finite_scores_two_modalities := by
  intro m g m' g' pre same
  refine ⟨fun c => Cert.KernelIdeal.Gen.W5 m g c (Proc.devRef .tc Cert.KernelIdeal.main_v29),
    Cert.KernelIdeal.Whole.run (F := Ideal) m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7, e8, e9, e10⟩ := same c
  rw [Cert.ReferenceIdeal.Read.val_main_v108_eq, e0, e1, e2, e3, e4, e5, e6, e7, e8, e9, e10]
  exact (Cert.KernelIdeal.Eq.result g (Cert.KernelIdeal.Pre.good m pre c)).symm

/-- The named scale's word is the rounding of its value. -/
theorem scale_named : Cert.preserves_Kernel_KernelIdeal :=
  IdealRules.named_const.statement Cert.KernelIdeal.κ "qscale" .f32 0x3E38AA3B#32
    (((8 * (Real.log 2))⁻¹ : ℝ) : EReal) rfl

end Cert.Whole
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores_two_modalities
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_finite_scores_two_modalities.Gen.facts,
    fun m ρ _ => Cert.Kernel.Gen.frame m ρ,
    fun m ρ _ => Cert.KernelIdeal.Gen.frame m ρ,
    fun m ρ _ => Cert.KernelIdeal.Gen.frame m ρ,
    Cert.Whole.reference_frame,
    fun m ρ _ => Cert.Whole.reference_frame m ρ trivial,
    Cert.Whole.scale_named,
    Cert.Whole.equal_results⟩

end Cert.Proof

end
